-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![768, 512]⟩ ⟨2, ![1536, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![768, 512]⟩ ⟨2, ![1536, 1024]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S768x512 : Shape := ⟨2, ![768, 512]⟩
abbrev S512 : Shape := ⟨1, ![512]⟩
abbrev S_ : Shape := ⟨0, ![]⟩

class Facts : Prop where
  bitsLt_bf16_f32 : FTy.bits .bf16 < FTy.bits .f32
  bcast_S_S768x512 : S_.BroadcastsInDim S768x512 (![] : Fin 0 → Fin S768x512.rank)
  reducesTo_S768x512_S_d0_1 : S768x512.ReducesTo [0, 1] S_
  h_S_ : 0 < S_.numel

variable [Facts]

def fn {F : FTy → Type} [FloatOps F] (main_arg0 : FVec F S768x512 .bf16) (main_arg1 : FVec F S512 .bf16) (main_arg2 : FVec F S512 .bf16) : IVec S_ 1 :=
  let main_v0 : FVec F S768x512 .f32 := (extf .f32 · bitsLt_bf16_f32) main_arg0
  let main_v1 : FVec F S768x512 .f32 := Host.absf main_v0
  let main_cst : FVec F S_ .f32 := constant S_ .f32 0x7F800000#32
  let main_v2 : FVec F S768x512 .f32 := broadcastInDim S768x512 ![] bcast_S_S768x512 main_cst
  let main_v3 : IVec S768x512 1 := cmpf .olt main_v1 main_v2
  let main_c : IVec S_ 1 := constantI S_ 1 1#1
  let main_v4 : IVec S_ 1 := (fun x v => Host.reduce IntOp.andi x v reducesTo_S768x512_S_d0_1 h_S_) main_v3 main_c
  main_v4
-- ==== Pre_x_finite_ReferenceIdeal.lean ====
abbrev S1536x1024 : Shape := ⟨2, ![1536, 1024]⟩
abbrev S1024 : Shape := ⟨1, ![1024]⟩
abbrev S_ : Shape := ⟨0, ![]⟩

class Facts : Prop where
  bitsLt_bf16_f32 : FTy.bits .bf16 < FTy.bits .f32
  bcast_S_S1536x1024 : S_.BroadcastsInDim S1536x1024 (![] : Fin 0 → Fin S1536x1024.rank)
  reducesTo_S1536x1024_S_d0_1 : S1536x1024.ReducesTo [0, 1] S_
  h_S_ : 0 < S_.numel

variable [Facts]

def fn {F : FTy → Type} [FloatOps F] (main_arg0 : FVec F S1536x1024 .bf16) (main_arg1 : FVec F S1024 .bf16) (main_arg2 : FVec F S1024 .bf16) : IVec S_ 1 :=
  let main_v0 : FVec F S1536x1024 .f32 := (extf .f32 · bitsLt_bf16_f32) main_arg0
  let main_v1 : FVec F S1536x1024 .f32 := Host.absf main_v0
  let main_cst : FVec F S_ .f32 := constant S_ .f32 0x7F800000#32
  let main_v2 : FVec F S1536x1024 .f32 := broadcastInDim S1536x1024 ![] bcast_S_S1536x1024 main_cst
  let main_v3 : IVec S1536x1024 1 := cmpf .olt main_v1 main_v2
  let main_c : IVec S_ 1 := constantI S_ 1 1#1
  let main_v4 : IVec S_ 1 := (fun x v => Host.reduce IntOp.andi x v reducesTo_S1536x1024_S_d0_1 h_S_) main_v3 main_c
  main_v4
-- ==== Kernel.lean ====
abbrev S768x512 : Shape := ⟨2, ![768, 512]⟩
abbrev S512 : Shape := ⟨1, ![512]⟩
abbrev S1x512 : Shape := ⟨2, ![1, 512]⟩
abbrev S2x768 : Shape := ⟨2, ![2, 768]⟩
abbrev S_ : Shape := ⟨0, ![]⟩
abbrev S768 : Shape := ⟨1, ![768]⟩
abbrev S768x1 : Shape := ⟨2, ![768, 1]⟩
abbrev S768x2 : Shape := ⟨2, ![768, 2]⟩

abbrev nBuf : Space → Nat
  | .hbm => 7
  | .vmem => 6
  | .smem => 0
  | _ => 0

abbrev bufTy : (tb : Table) → Fin (tcTables nBuf tb) → BufTy
  | .hbm, ⟨0, _⟩ => ⟨S768x512, .bf16⟩
  | .hbm, ⟨1, _⟩ => ⟨S512, .bf16⟩
  | .hbm, ⟨2, _⟩ => ⟨S512, .bf16⟩
  | .hbm, ⟨3, _⟩ => ⟨S768x512, .f32⟩
  | .hbm, ⟨4, _⟩ => ⟨S1x512, .bf16⟩
  | .hbm, ⟨5, _⟩ => ⟨S1x512, .bf16⟩
  | .hbm, ⟨6, _⟩ => ⟨S768x512, .bf16⟩
  | .local _ .vmem, ⟨0, _⟩ => ⟨S768x512, .f32⟩
  | .local _ .vmem, ⟨1, _⟩ => ⟨S1x512, .bf16⟩
  | .local _ .vmem, ⟨2, _⟩ => ⟨S1x512, .bf16⟩
  | .local _ .vmem, ⟨3, _⟩ => ⟨S768x512, .bf16⟩
  | .local _ .vmem, ⟨4, _⟩ => ⟨S2x768, .f32⟩
  | .local _ .vmem, ⟨5, _⟩ => ⟨S2x768, .f32⟩
  | _, _ => ⟨S768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v24 : BitVec 32 := Scalar.muli v2 c2_i32_11
  let v25 : BitVec 32 := Scalar.addi c0_i32_12 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v26 : BitVec 32 := Scalar.muli v6 c1_i32_13
  let v27 : BitVec 32 := Scalar.addi v25 v26
  v27.toNat
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1536x1024 : Shape := ⟨2, ![1536, 1024]⟩
abbrev S1024 : Shape := ⟨1, ![1024]⟩
abbrev S_ : Shape := ⟨0, ![]⟩
abbrev S1536 : Shape := ⟨1, ![1536]⟩
abbrev S1536x1 : Shape := ⟨2, ![1536, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S1024, .bf16⟩
  | .hbm, ⟨2, _⟩ => ⟨S1024, .bf16⟩
  | .hbm, ⟨3, _⟩ => ⟨S1536x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1536, .f32⟩
  | .hbm, ⟨8, _⟩ => ⟨S1536x1, .f32⟩
  | .hbm, ⟨9, _⟩ => ⟨S_, .f32⟩
  | .hbm, ⟨10, _⟩ => ⟨S1536x1, .f32⟩
  | .hbm, ⟨11, _⟩ => ⟨S1536x1, .f32⟩
  | .hbm, ⟨12, _⟩ => ⟨S_, .i32⟩
  | .hbm, ⟨13, _⟩ => ⟨S_, .f32⟩
  | .hbm, ⟨14, _⟩ => ⟨S1536, .f32⟩
  | .hbm, ⟨15, _⟩ => ⟨S1536x1, .f32⟩
  | .hbm, ⟨16, _⟩ => ⟨S_, .f32⟩
  | .hbm, ⟨17, _⟩ => ⟨S1536x1, .f32⟩
  | .hbm, ⟨18, _⟩ => ⟨S1536x1, .f32⟩
  | .hbm, ⟨19, _⟩ => ⟨S1536x1024, .f32⟩
  | .hbm, ⟨20, _⟩ => ⟨S1536x1024, .f32⟩
  | .hbm, ⟨21, _⟩ => ⟨S1536x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1536, .f32⟩
  | .hbm, ⟨27, _⟩ => ⟨S1536x1, .f32⟩
  | .hbm, ⟨28, _⟩ => ⟨S1536x1, .f32⟩
  | .hbm, ⟨29, _⟩ => ⟨S1536x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1536x1, .f32⟩
  | .hbm, ⟨35, _⟩ => ⟨S1536x1, .f32⟩
  | .hbm, ⟨36, _⟩ => ⟨S1536x1024, .f32⟩
  | .hbm, ⟨37, _⟩ => ⟨S1536x1024, .f32⟩
  | .hbm, ⟨38, _⟩ => ⟨S1x1024, .f32⟩
  | .hbm, ⟨39, _⟩ => ⟨S1536x1024, .f32⟩
  | .hbm, ⟨40, _⟩ => ⟨S1536x1024, .f32⟩
  | .hbm, ⟨41, _⟩ => ⟨S_, .f32⟩
  | .hbm, ⟨42, _⟩ => ⟨S1536x1, .f32⟩
  | .hbm, ⟨43, _⟩ => ⟨S1536x1, .f32⟩
  | .hbm, ⟨44, _⟩ => ⟨S1536x1, .f32⟩
  | .hbm, ⟨45, _⟩ => ⟨S1536x1024, .f32⟩
  | .hbm, ⟨46, _⟩ => ⟨S1536x1024, .f32⟩
  | .hbm, ⟨47, _⟩ => ⟨S1x1024, .f32⟩
  | .hbm, ⟨48, _⟩ => ⟨S1536x1024, .f32⟩
  | .hbm, ⟨49, _⟩ => ⟨S1536x1024, .f32⟩
  | .hbm, ⟨50, _⟩ => ⟨S1536x1024, .bf16⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.KernelIdealTalk.lean ====
/-
# 01_k, the exchange of row statistics between the two devices of a mesh row

Each device sums its block's rows and their squares into `my_stats`, tells its row mate that `peer_stats` may be
written, waits for the mate's leave, copies `my_stats` into the mate's `peer_stats`, and normalises its block by the
two statistics added. Three semaphore cells a device carry this: the barrier, the send cell and the receive cell.
This module states the protocol and runs the kernel body under it.
-/
module

public import proofs.«01_k».proof.Proof.Gen.KernelIdeal.Skeleton
public import proofs.«01_k».proof.Proof.Gen.KernelIdeal.Frame
public import Idealize.ShloMosaic.Lib.Rounds
public import Idealize.ShloMosaic.Lib.Pipeline.Launch
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost resources: one component for the pipeline's rounds, one for the exchange's. -/
abbrev UU : Type := UR sig nD τ × UR sig nD τ

local notation "𝕄" => MT nD τ sig Unit (Elt F) ℕ UU ℕ

/-- The pipeline's component. -/
abbrev EP : Emb (UR sig nD τ) (MT nD τ sig Unit (Elt F) ℕ UU ℕ) := embL
/-- The exchange's component. -/
abbrev ER : Emb (UR sig nD τ) (MT nD τ sig Unit (Elt F) ℕ UU ℕ) := embR

variable (m : (ℓ : Loc nD τ sig) → Buf (Elt F) ℓ)

/-! ## Row mates -/

/-- The other device of `c`'s mesh row. -/
def mate (c : Dev nD) : Dev nD := ⟨2 * (c.val / 2) + 1 - c.val % 2, by have := c.isLt; simp only [nD] at this ⊢; omega⟩

/-- The mate's mate is the device itself. -/
theorem mate_mate (c : Dev nD) : mate (mate c) = c := by revert c; decide
/-- The signal names the mate. -/
theorem signal_to (c : Dev nD) : (⟨k0_dev1 c, k0_dev1_lt c⟩ : Dev nD) = mate c := Fin.ext (k0_dev1_eq c)
/-- The copy names the mate. -/
theorem copy_to (c : Dev nD) : (⟨k0_dev2 c, k0_dev2_lt c⟩ : Dev nD) = mate c := Fin.ext (k0_dev2_eq c)
/-- Taking mates permutes the devices. -/
def mates : Dev nD ≃ Dev nD := ⟨mate, mate, mate_mate, mate_mate⟩

/-! ## The cells -/

/-- The three kinds of cell: the barrier, the send cell, the receive cell. -/
inductive Kind
  | bar | snd | rcv
  deriving DecidableEq

/-- The barrier semaphore as the body names it. -/
abbrev barS : Sem sig := (SemArray.scalar (sig.barrier 0 rfl) : Sems sig S_).sem

/-- The semaphore of a kind. -/
abbrev ksem : Kind → SemLoc sig
  | .bar => .reg barS
  | .snd => .dma cc0_scratch2.sem
  | .rcv => .dma cc0_scratch3.sem

/-- Device `c`'s cell of a kind. -/
abbrev cell (k : Kind) (c : Dev nD) : GSem nD τ sig := ((c : Thread nD τ), ksem k)

/-- The kind a semaphore has, if it is one of the exchange's. -/
def kindOf (s : SemLoc sig) : Option Kind :=
  if s = ksem .bar then some .bar else if s = ksem .snd then some .snd else if s = ksem .rcv then some .rcv else none

/-- Distinct kinds have distinct semaphores. -/
theorem ksem_inj {k k' : Kind} (h : ksem k = ksem k') : k = k' := by
  cases k <;> cases k' <;> first | rfl | exact absurd h (by decide)

/-- The kind of a kind's semaphore. -/
theorem kindOf_ksem (k : Kind) : kindOf (ksem k) = some k := by
  cases k
  · exact if_pos rfl
  · exact (if_neg (by decide)).trans (if_pos rfl)
  · exact (if_neg (by decide)).trans ((if_neg (by decide)).trans (if_pos rfl))

/-! ## Buffers and what they hold -/

/-- The two scratch buffers and the four staging buffers as the body names them. -/
abbrev mineM : Memref sig .tc .vmem S2x768 .f32 := Memref.whole cc0_scratch0
abbrev peerM : Memref sig .tc .vmem S2x768 .f32 := Memref.whole cc0_scratch1
abbrev xM : Memref sig .tc .vmem S768x512 .f32 := Memref.whole cc0_stg0_0
abbrev gM : Memref sig .tc .vmem S1x512 .bf16 := Memref.whole cc0_stg1_0
abbrev bM : Memref sig .tc .vmem S1x512 .bf16 := Memref.whole cc0_stg2_0
abbrev oM : Memref sig .tc .vmem S768x512 .bf16 := Memref.whole cc0_stg3_0

/-- The staged block of `x` on device `c`. -/
def xin (c : Dev nD) : (cc0_stg0_0 : Ref sig .tc).ty.Contents (Elt F) := iblk m c 0 t0_0
/-- The staged block of `gamma` on device `c`. -/
def gin (c : Dev nD) : (cc0_stg1_0 : Ref sig .tc).ty.Contents (Elt F) := iblk m c 1 t0_0
/-- The staged block of `beta` on device `c`. -/
def bin (c : Dev nD) : (cc0_stg2_0 : Ref sig .tc).ty.Contents (Elt F) := iblk m c 2 t0_0
/-- The row sums and sums of squares of device `c`'s block. -/
def stats (c : Dev nD) : (cc0_scratch0 : Ref sig .tc).ty.Contents (Elt F) := k0_pay3 (xin m c)
/-- The block device `c` writes: its own block normalised by its own and its mate's statistics. -/
def outB (c : Dev nD) : (cc0_stg3_0 : Ref sig .tc).ty.Contents (Elt F) :=
  k0_pay1 (k0_pay2 (xin m c)) (stats m c) (stats m (mate c)) (gin m c) (bin m c)

/-- Device `c` holds `my_stats` at `f`, to the share `q`. -/
def mine (q : PosShare TreeShare) (c : Dev nD) (f : Buf (Elt F) (mineM.view.loc (c : Thread nD τ))) : sProp 𝕄 :=
  mineM.view.loc (c : Thread nD τ) ↦[mineM.view.set]{q} f
/-- Device `c` holds `peer_stats` at `f`. -/
def theirs (c : Dev nD) (f : Buf (Elt F) (peerM.view.loc (c : Thread nD τ))) : sProp 𝕄 :=
  peerM.view.loc (c : Thread nD τ) ↦[peerM.view.set]{fullShare} f

omit [FloatOps F] in
/-- The view of `my_stats` is the whole buffer. -/
theorem mine_eq (q : PosShare TreeShare) (c : Dev nD) (f : Buf (Elt F) ((c : Thread nD τ).loc cc0_scratch0)) :
    mine q c f = (((c : Thread nD τ).loc cc0_scratch0) ↦{q} f : sProp 𝕄) := by
  unfold mine; rw [show (mineM : Memref sig .tc .vmem S2x768 .f32).view.set = Finset.univ from View.set_whole _]
omit [FloatOps F] in
/-- The view of `peer_stats` is the whole buffer. -/
theorem theirs_eq (c : Dev nD) (f : Buf (Elt F) ((c : Thread nD τ).loc cc0_scratch1)) :
    theirs c f = (((c : Thread nD τ).loc cc0_scratch1) ↦{fullShare} f : sProp 𝕄) := by
  unfold theirs; rw [show (peerM : Memref sig .tc .vmem S2x768 .f32).view.set = Finset.univ from View.set_whole _]

omit [FloatOps F] in
/-- `my_stats` splits into a half for the copy to read and a half for the body to read meanwhile. -/
theorem mine_halves (c : Dev nD) (f : Buf (Elt F) ((c : Thread nD τ).loc cc0_scratch0)) :
    (mine fullShare c f : sProp 𝕄) ⊣⊢ iprop(mine fullShare.left c f ∗ mine fullShare.right c f) := by
  rw [mine_eq, mine_eq, mine_eq]; exact pointsTo_share (PosShare.mem_left_op_right fullShare)

omit [FloatOps F] in
instance mine_storable (q : PosShare TreeShare) (c : Dev nD) (f) : BI.Storable (upEmb : UEmb _ 𝕄) (mine (F := F) q c f) := by
  unfold mine; infer_instance
omit [FloatOps F] in
instance theirs_storable (c : Dev nD) (f) : BI.Storable (upEmb : UEmb _ 𝕄) (theirs (F := F) c f) := by
  unfold theirs; infer_instance

omit [FloatOps F] in
/-- A whole copy of `my_stats` into `peer_stats` leaves what `my_stats` held. -/
theorem copied (c : Dev nD) (fd : Buf (Elt F) (peerM.view.loc (c : Thread nD τ)))
    (fs : (cc0_scratch0 : Ref sig .tc).ty.Contents (Elt F)) :
    peerM.view.write (Elt F) fd (mineM.view.read (Elt F) fs) Finset.univ = fs := by
  show (View.whole cc0_scratch1).write (Elt F) fd ((View.whole cc0_scratch0).read (Elt F) fs) Finset.univ = fs
  rw [View.read_whole]; exact View.write_whole_univ _ _ _

/-! ## The schedule: one round, one payment a cell -/

/-- What one copy credits its cells. -/
abbrev N : ℕ := (peerM : Memref sig .tc .vmem S2x768 .f32).view.dmaCredit
/-- The two scratch buffers are alike, so a wait on either counts the same. -/
theorem N_mine : (mineM : Memref sig .tc .vmem S2x768 .f32).view.dmaCredit = N := rfl
theorem N_pos : 0 < N := View.dmaCredit_pos _ (by decide)

/-- How much a cell is paid. -/
def amt : Option Kind → ℕ
  | some .bar => 1
  | _ => N

theorem amt_pos (k : Option Kind) : 0 < amt k := by
  rcases k with _ | _ | _ | _ <;> first | exact N_pos | exact Nat.one_pos

/-- What the payment to device `c`'s cell hands over. Barrier: the mate's `peer_stats`, to be written, and that the
    mate's receive cell is open. Receive cell: `peer_stats` with the mate's statistics. Send cell: the half of
    `my_stats` the copy read. -/
def pay : Option Kind → Dev nD → sProp 𝕄
  | some .bar, c => iprop((∃ f, theirs (mate c) f) ∗ reached ER (cell .rcv (mate c)) 0)
  | some .rcv, c => theirs c (stats m (mate c))
  | some .snd, c => mine fullShare.left c (stats m c)
  | none, _ => iprop(emp)

theorem pay_bar (c : Dev nD) : pay (F := F) m (some .bar) c = iprop((∃ f, theirs (mate c) f) ∗ reached ER (cell .rcv (mate c)) 0) := rfl
theorem pay_rcv (c : Dev nD) : pay (F := F) m (some .rcv) c = theirs c (stats m (mate c)) := rfl
theorem pay_snd (c : Dev nD) : pay (F := F) m (some .snd) c = mine fullShare.left c (stats m c) := rfl

instance pay_storable (k : Option Kind) (c : Dev nD) : BI.Storable (upEmb : UEmb _ 𝕄) (pay (F := F) m k c) := by
  rcases k with _ | _ | _ | _ <;> unfold pay <;> infer_instance

/-- The schedule of the exchange. -/
def sched : Rounds.Schedule (GSem nD τ sig) Unit 𝕄 where
  duties g r := if r = 0 ∧ g.1.2 = .tc ∧ (kindOf g.2).isSome then {()} else ∅
  unitless _ := False
  amount g _ _ := amt (kindOf g.2)
  payload g _ _ := pay m (kindOf g.2) g.1.1
  amount_pos g _ _ _ := amt_pos _

instance sched_storable (g : GSem nD τ sig) (r : ℕ) (d : Unit) :
    BI.Storable (upEmb : UEmb _ 𝕄) ((sched (F := F) m).payload g r d) :=
  pay_storable m (kindOf g.2) g.1.1

/-- Every cell of the exchange has its one duty in round 0. -/
theorem duties_cell (k : Kind) (c : Dev nD) : (sched (F := F) m).duties (cell k c) 0 = {()} := by
  dsimp only [sched]; exact if_pos ⟨rfl, rfl, by rw [kindOf_ksem]; rfl⟩
/-- No cell has a duty in a later round. -/
theorem duties_later (g : GSem nD τ sig) : ∀ r, 0 + 1 ≤ r → (sched (F := F) m).duties g r = ∅ :=
  fun r hr => by dsimp only [sched]; exact if_neg fun h => by omega
theorem mem_duties (k : Kind) (c : Dev nD) : () ∈ (sched (F := F) m).duties (cell k c) 0 := by
  rw [duties_cell]; exact Finset.mem_singleton_self _
theorem amount_cell (k : Kind) (c : Dev nD) (u : Unit) : (sched (F := F) m).amount (cell k c) 0 u = amt (some k) := by
  dsimp only [sched]; rw [kindOf_ksem]
theorem payload_cell (k : Kind) (c : Dev nD) (u : Unit) : (sched (F := F) m).payload (cell k c) 0 u = pay m (some k) c := by
  dsimp only [sched]; rw [kindOf_ksem]
/-- What a round expects is the one payment. -/
theorem expect_cell (k : Kind) (c : Dev nD) : (sched (F := F) m).expect (cell k c) 0 = amt (some k) := by
  unfold Schedule.expect Schedule.amountOf; rw [duties_cell, Finset.sum_singleton, amount_cell]
/-- What a wait hands over is the one payload. -/
theorem rest_cell (k : Kind) (c : Dev nD) :
    bigSep ((sched (F := F) m).duties (cell k c) 0 \ ∅) (fun u => (sched (F := F) m).payload (cell k c) 0 u) = pay m (some k) c := by
  rw [Finset.sdiff_empty, duties_cell, bigSep_singleton, payload_cell]

/-! ## Debts and levels -/

/-- At launch a device owes its mate's receive cell a copy and its mate's barrier one unit. -/
def debt (c : Dev nD) : CellTallies nD τ sig Unit := tallyAt (cell .rcv (mate c)) () N + tallyAt (cell .bar (mate c)) () 1

/-- Which cells have a level: those of the TensorCores. -/
def L (g : GSem nD τ sig) : Finset Unit := if g.1.2 = .tc then {()} else ∅
/-- The levels: staging and send cells lowest, then the barrier, then the receive cells. -/
def lv (g : GSem nD τ sig) (_ : Unit) : ℕ := match kindOf g.2 with | some .bar => 1 | some .rcv => 2 | _ => 0
theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_cell (k : Kind) (c : Dev nD) (u : Unit) : lv (cell k c) u = match some k with | some .bar => 1 | some .rcv => 2 | _ => 0 := by
  unfold lv; rw [kindOf_ksem]

/-- A single debt is owed to its own cell only. -/
theorem tally_pos {g g' : GSem nD τ sig} {n : ℕ} {u : Unit} (h : 0 < (tallyAt g' () n : CellTallies nD τ sig Unit) g u) : g = g' := by
  rw [tallyAt_apply] at h
  by_contra hn
  rw [if_neg fun e => hn e.1] at h
  exact Nat.lt_irrefl 0 h
/-- The launch debt is owed to the mate's receive cell and barrier only. -/
theorem debt_pos {c : Dev nD} {g : GSem nD τ sig} {u : Unit} (h : 0 < debt c g u) : g = cell .rcv (mate c) ∨ g = cell .bar (mate c) := by
  unfold debt at h
  rw [Pi.add_apply, Finsupp.add_apply] at h
  rcases Nat.add_pos_iff_pos_or_pos.mp h with h | h
  · exact .inl (tally_pos h)
  · exact .inr (tally_pos h)

omit [FloatOps F] in
/-- A device that owes only the copy may wait at its barrier. -/
theorem may_wait_bar (c : Dev nD) :
    (levAts L lv : sProp 𝕄) ⊢ MayWait (c : Thread nD τ) (ksem .bar) () (tallyAt (cell .rcv (mate c)) () N) :=
  MayOwe.of_cut (L := L) (lev := lv) 1 (fun p hp => by rw [Finset.mem_singleton.mp hp]; exact mem_L _ _ _)
    (fun g u hg => by rw [tally_pos hg]; exact mem_L _ _ _)
    (fun p hp => by rw [Finset.mem_singleton.mp hp]; exact le_of_eq (lv_cell .bar c ()))
    (fun g u hg => by rw [tally_pos hg, lv_cell]; decide)

/-! ## The ghost state -/

/-- The invariants of the cells device `c` touches: its own three, its mate's barrier and receive cell. -/
def invs (K : GSem nD τ sig → ℕ) (c : Dev nD) : sProp 𝕄 :=
  iprop(cellInv ER (sched m) (K (cell .bar c)) (cell .bar c) ∗ cellInv ER (sched m) (K (cell .snd c)) (cell .snd c)
    ∗ cellInv ER (sched m) (K (cell .rcv c)) (cell .rcv c)
    ∗ cellInv ER (sched m) (K (cell .bar (mate c))) (cell .bar (mate c))
    ∗ cellInv ER (sched m) (K (cell .rcv (mate c))) (cell .rcv (mate c)))

instance invs_persistent (K : GSem nD τ sig → ℕ) (c : Dev nD) : BI.Persistent (invs m K c) := by unfold invs; infer_instance

/-- The rights to make the three payments device `c` makes. -/
def dues (c : Dev nD) : sProp 𝕄 :=
  iprop(dutyTok ER (cell .bar (mate c)) 0 () ∗ dutyTok ER (cell .rcv (mate c)) 0 () ∗ dutyTok ER (cell .snd c) 0 ())

/-- The credit device `c` waits with. -/
def credits (c : Dev nD) : sProp 𝕄 := iprop(cred (tallyAt (cell .bar c) () 1) ∗ cred (tallyAt (cell .rcv c) () N))

/-- From launch: the invariants, the barrier's position, the rights to open the two scoped cells, the payment rights. -/
def dealt (K : GSem nD τ sig → ℕ) (c : Dev nD) : sProp 𝕄 :=
  iprop(invs m K c ∗ atPos ER (cell .bar c) 0 ∅ 0 ∗ openTok ER (cell .snd c) ∗ openTok ER (cell .rcv c)
    ∗ reached ER (cell .bar (mate c)) 0 ∗ dues c)

/-- Inside the call, the two scoped cells opened. -/
def opened (K : GSem nD τ sig → ℕ) (c : Dev nD) : sProp 𝕄 :=
  iprop(invs m K c ∗ atPos ER (cell .bar c) 0 ∅ 0 ∗ atPos ER (cell .snd c) 0 ∅ 0 ∗ atPos ER (cell .rcv c) 0 ∅ 0
    ∗ reached ER (cell .bar (mate c)) 0 ∗ reached ER (cell .snd c) 0 ∗ reached ER (cell .rcv c) 0 ∗ dues c)

/-- A cell whose one round is over gives its counter back at zero. -/
theorem closed (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_later m g)

/-- No variants are needed: the kernel has no loop. -/
abbrev 𝒱₀ : Variants := Variants.none

/-! ## The body -/

omit [FloatOps F] in
theorem zero2 : (![0, 0] : Fin 2 → Nat) = fun _ => 0 := funext fun a => by fin_cases a <;> rfl

/-- The rectangles the body loads and stores through: each a whole buffer. -/
abbrev rS : Rect S2x768 := Rect.unit (s := S2x768) ![0, 0] S2x768.size inb_S2x768_S2x768_0_0
abbrev rX : Rect S768x512 := Rect.unit (s := S768x512) ![0, 0] S768x512.size inb_S768x512_S768x512_0_0
abbrev rG : Rect S1x512 := Rect.unit (s := S1x512) ![0, 0] S1x512.size inb_S1x512_S1x512_0_0

omit [FloatOps F] in
theorem load_x (f : (cc0_stg0_0 : Ref sig .tc).ty.Contents (Elt F)) : xM.view.readAt (Elt F) rX.toLoadRect f = f :=
  Memref.readAt_unit_zero (Elt F) cc0_stg0_0 zero2 _ f
omit [FloatOps F] in
theorem load_g (f : (cc0_stg1_0 : Ref sig .tc).ty.Contents (Elt F)) : gM.view.readAt (Elt F) rG.toLoadRect f = f :=
  Memref.readAt_unit_zero (Elt F) cc0_stg1_0 zero2 _ f
omit [FloatOps F] in
theorem load_b (f : (cc0_stg2_0 : Ref sig .tc).ty.Contents (Elt F)) : bM.view.readAt (Elt F) rG.toLoadRect f = f :=
  Memref.readAt_unit_zero (Elt F) cc0_stg2_0 zero2 _ f
omit [FloatOps F] in
theorem load_mine (f : (cc0_scratch0 : Ref sig .tc).ty.Contents (Elt F)) : mineM.view.readAt (Elt F) rS.toLoadRect f = f :=
  Memref.readAt_unit_zero (Elt F) cc0_scratch0 zero2 _ f
omit [FloatOps F] in
theorem load_theirs (f : (cc0_scratch1 : Ref sig .tc).ty.Contents (Elt F)) : peerM.view.readAt (Elt F) rS.toLoadRect f = f :=
  Memref.readAt_unit_zero (Elt F) cc0_scratch1 zero2 _ f
omit [FloatOps F] in
theorem store_mine (f w : (cc0_scratch0 : Ref sig .tc).ty.Contents (Elt F)) :
    (mineM.access rS : View sig .tc _ _ _).write (Elt F) f w Finset.univ = w :=
  Memref.write_access_unit_zero_univ (Elt F) cc0_scratch0 zero2 _ f w
omit [FloatOps F] in
theorem store_out (f w : (cc0_stg3_0 : Ref sig .tc).ty.Contents (Elt F)) :
    (oM.access rX : View sig .tc _ _ _).write (Elt F) f w Finset.univ = w :=
  Memref.write_access_unit_zero_univ (Elt F) cc0_stg3_0 zero2 _ f w

variable (K : GSem nD τ sig → ℕ)

/-- The copy to the mate: pays the own send cell with half of `my_stats` and the mate's receive cell with its
    `peer_stats` rewritten. -/
theorem wp_copy (c n : Dev nD) (hn : n = mate c) {hsc : peerM.view.ref.isScScratch = false}
    {hsrc : mineM.view.WordExact} {hdst : peerM.view.WordExact}
    {hsem : DmaTarget.Typed .vmem (ksem .rcv) (.remote (Dev.tc n : Thread nD τ) peerM (ksem .snd) hsc)}
    {α : Type} {Q : α → sProp 𝕄} {k : PUnit → Prog (TpuEff nD τ sig (Elt F) Λ₀ .tc) α}
    (fn : Buf (Elt F) (peerM.view.loc (mate c : Thread nD τ))) (W : Waits sig Unit) :
    iprop(cellInv ER (sched m) (K (cell .snd c)) (cell .snd c) ∗ cellInv ER (sched m) (K (cell .rcv (mate c))) (cell .rcv (mate c))
        ∗ mine fullShare.left c (stats m c) ∗ theirs (mate c) fn
        ∗ owes (c : Thread nD τ) (tallyAt (cell .rcv (mate c)) () N) W
        ∗ dutyTok ER (cell .snd c) 0 () ∗ reached ER (cell .snd c) 0
        ∗ dutyTok ER (cell .rcv (mate c)) 0 () ∗ reached ER (cell .rcv (mate c)) 0)
      ⊢ iprop(((cred (tallyAt (cell .snd c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mineM (.remote (Dev.tc n : Thread nD τ) peerM (ksem .snd) hsc) (ksem .rcv) hsrc hdst hsem) k) Q) := by
  subst hn
  unfold mine theirs
  exact Rounds.wp_send_pointsTo 𝒱₀ ER (sched m) (c : Thread nD τ) none (κ₁ := K (cell .snd c)) (κ₂ := K (cell .rcv (mate c)))
    (r₁ := 0) (r₂ := 0) (d₁ := ()) (d₂ := ()) (fd := fn) (mem_duties m .snd c) (mem_duties m .rcv (mate c))
    () () N rfl (amount_cell m .snd c ()) (amount_cell m .rcv (mate c) ()) 0 (by rw [zero_add]) (W := W)
    (by rw [payload_cell]; exact BI.Entails.refl _)
    (by rw [payload_cell, pay_rcv, mate_mate]; unfold theirs; rw [copied])

/-- A staging buffer held whole at `X`. -/
abbrev stg (c : Dev nD) (b : Ref sig .tc) (X : b.ty.Contents (Elt F)) : sProp 𝕄 := ((c : Thread nD τ).loc b) ↦{fullShare} X

/-- What the body starts from. -/
def bodyPre (c : Dev nD) (W : Waits sig Unit) : sProp 𝕄 :=
  iprop(opened m K c ∗ credits c ∗ levAts L lv ∗ (∃ f, mine fullShare c f) ∗ (∃ f, theirs c f)
    ∗ owes (c : Thread nD τ) (debt c) W
    ∗ stg c cc0_stg0_0 (xin m c) ∗ stg c cc0_stg1_0 (gin m c) ∗ stg c cc0_stg2_0 (bin m c) ∗ ∃ f, stg c cc0_stg3_0 f)

/-- What it ends with: counters at zero, scratch returned, nothing owed, the output block written. -/
def bodyPost (c : Dev nD) : sProp 𝕄 :=
  iprop((semVal (cell .bar c) 0 ∗ semVal (cell .snd c) 0 ∗ semVal (cell .rcv c) 0) ∗ (∃ f, mine fullShare c f) ∗ (∃ f, theirs c f)
    ∗ (∃ W, owes (c : Thread nD τ) (0 : CellTallies nD τ sig Unit) W)
    ∗ stg c cc0_stg0_0 (xin m c) ∗ stg c cc0_stg1_0 (gin m c) ∗ stg c cc0_stg2_0 (bin m c) ∗ stg c cc0_stg3_0 (outB m c))

set_option maxHeartbeats 1600000 in
/-- The body runs from `bodyPre` to `bodyPost`. -/
theorem body_run (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ
          (cc0_body xM (Memref.isWhole_whole _) gM (Memref.isWhole_whole _) bM (Memref.isWhole_whole _) oM (Memref.isWhole_whole _)
            mineM (Memref.isWhole_whole _) peerM (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre opened invs dues credits
  iintro ⟨⟨⟨⟨#Ib, #Is, #Ir, #Ibm, #Irm⟩, Ab, As, Ar, #Rbm, #Rs, #Rr, Tb, Tr, Ts⟩, ⟨Cb, Cr⟩, #Hlev, ⟨%f0, Hm⟩, ⟨%f1, Ht⟩, HO, Hx, Hg, Hb, ⟨%f3, Ho⟩⟩, Hk⟩
  simp only [signal_to c]
  -- leave for the mate to write the own `peer_stats`
  iapply (Rounds.wp_signal 𝒱₀ ER (sched m) (c : Thread nD τ) none (dst := (mate c : Thread nD τ)) (κ := K (cell .bar (mate c)))
      (mem_duties m .bar (mate c)) ((amount_cell m .bar (mate c) ()).trans (by decide)) () (tallyAt (cell .rcv (mate c)) () N) rfl)
    $$ [HO Tb Ht]
  · isplitr; · iexact Ibm
    isplitl [HO]; · iexact HO
    isplitl [Tb]; · iexact Tb
    isplitl [Ht]
    · iapply (Entails.of_eq ((payload_cell m .bar (mate c) ()).trans (pay_bar m (mate c))).symm)
      rw [mate_mate]
      isplitl [Ht]; · iexists f1; iexact Ht
      iexact Rr
    · iexact Rbm
  iintro HO
  -- the statistics of the own block
  iapply (wp_load 𝒱₀ (c : Thread nD τ) none Set.univ (m := xM) (Finset.subset_univ _)) $$ Hx; iintro Hx
  rw [load_x]
  ihave Hm := (Entails.of_eq (mine_eq fullShare c f0)) $$ Hm
  iapply (wp_load 𝒱₀ (c : Thread nD τ) none Set.univ (m := mineM) (Finset.subset_univ _)) $$ Hm; iintro Hm
  iapply (wp_store 𝒱₀ (c : Thread nD τ) none Set.univ (m := mineM) (r := rS) (Mk := Finset.univ) (Finset.subset_univ _)) $$ Hm; iintro Hm
  rw [store_mine]
  ihave Hm := (show ((mineM.access rS : View sig .tc _ _ _).loc (c : Thread nD τ) ↦{fullShare} k0_pay3 (xin m c) : sProp 𝕄) ⊢ mine fullShare c (stats m c)
    from Entails.of_eq (mine_eq fullShare c (stats m c)).symm) $$ Hm
  ihave Hm := (mine_halves c (stats m c)).1 $$ Hm
  icases Hm with ⟨Hl, Hr⟩
  -- the mate's leave
  iapply (Rounds.wp_wait_rest_token 𝒱₀ ER (sched m) (c : Thread nD τ) none (κ := K (cell .bar c))
      (wpE_semWait_eq 𝒱₀ (c : Thread nD τ) none Set.univ) (Set.mem_univ _) () (O := tallyAt (cell .rcv (mate c)) () N) (W := W) (R := 0) (m := 0) (T := ∅)
      ((Nat.zero_add _).trans ((expect_cell m .bar c).trans (show amt (some .bar) = 1 from rfl)).symm)) $$ [Cb HO Ab]
  · isplitr; · iexact Ib
    isplitl [Cb]; · iexact Cb
    isplitl [HO]; · iexact HO
    isplitr; · iapply (may_wait_bar c); iexact Hlev
    iexact Ab
  iintro ⟨HO, Ab, -, Hpay⟩
  ihave Hp := (Entails.of_eq ((rest_cell m .bar c).trans (pay_bar m c))) $$ Hpay
  icases Hp with ⟨⟨%fn, Hn⟩, #Rrm⟩
  -- the copy
  iapply (wp_copy m K c _ (copy_to c) fn (insert (ksem .bar, ()) W)) $$ [Hl Hn HO Ts Tr]
  · isplitr; · iexact Is
    isplitr; · iexact Irm
    isplitl [Hl]; · iexact Hl
    isplitl [Hn]; · iexact Hn
    isplitl [HO]; · iexact HO
    isplitl [Ts]; · iexact Ts
    isplitr; · iexact Rs
    isplitl [Tr]; · iexact Tr
    iexact Rrm
  iintro ⟨Cs, HO⟩
  -- the mate's statistics arrive
  iapply (Rounds.wp_wait_rest_token 𝒱₀ ER (sched m) (c : Thread nD τ) none (κ := K (cell .rcv c))
      (wpE_waitDma2_eq 𝒱₀ (c : Thread nD τ) none Set.univ) (Set.mem_univ _) () (O := 0)
      (W := insert (ksem .bar, ()) W) (R := 0) (m := 0) (T := ∅)
      ((Nat.zero_add _).trans ((expect_cell m .rcv c).trans (show amt (some .rcv) = N from rfl)).symm)) $$ [Cr HO Ar]
  · isplitr; · iexact Ir
    isplitl [Cr]; · iexact Cr
    isplitl [HO]; · iexact HO
    isplitr; · rw [MayWait_zero]; iempintro
    iexact Ar
  iintro ⟨HO, Ar, -, Hpay⟩
  ihave Ht := (Entails.of_eq ((rest_cell m .rcv c).trans ((pay_rcv m c).trans (theirs_eq c (stats m (mate c)))))) $$ Hpay
  -- the loads; `my_stats` through the half that is not lent
  ihave Hr := (Entails.of_eq (mine_eq fullShare.right c (stats m c))) $$ Hr
  iapply (wp_load 𝒱₀ (c : Thread nD τ) none Set.univ (m := mineM) (Finset.subset_univ _)) $$ Hr; iintro Hr
  rw [load_mine]
  iapply (wp_load 𝒱₀ (c : Thread nD τ) none Set.univ (m := peerM) (Finset.subset_univ _)) $$ Ht; iintro Ht
  rw [load_theirs]
  iapply (wp_load 𝒱₀ (c : Thread nD τ) none Set.univ (m := gM) (Finset.subset_univ _)) $$ Hg; iintro Hg
  rw [load_g]
  iapply (wp_load 𝒱₀ (c : Thread nD τ) none Set.univ (m := bM) (Finset.subset_univ _)) $$ Hb; iintro Hb
  rw [load_b]
  iapply (wp_load 𝒱₀ (c : Thread nD τ) none Set.univ (m := oM) (Finset.subset_univ _)) $$ Ho; iintro Ho
  iapply (wp_store 𝒱₀ (c : Thread nD τ) none Set.univ (m := oM) (r := rX) (Mk := Finset.univ) (Finset.subset_univ _)) $$ Ho; iintro Ho
  rw [store_out]
  -- the copy has been read: the lent half returns
  iapply (Rounds.wp_wait_rest_token 𝒱₀ ER (sched m) (c : Thread nD τ) none (κ := K (cell .snd c))
      (wpE_waitDma2_eq (src := peerM) (dst := mineM) 𝒱₀ (c : Thread nD τ) none Set.univ) (Set.mem_univ _) () (O := 0)
      (W := insert (ksem .rcv, ()) (insert (ksem .bar, ()) W)) (R := 0) (m := 0) (T := ∅)
      ((Nat.zero_add _).trans (N_mine.trans ((expect_cell m .snd c).trans (show amt (some .snd) = N from rfl)).symm))) $$ [Cs HO As]
  · isplitr; · iexact Is
    isplitl [Cs]; · rw [N_mine]; iexact Cs
    isplitl [HO]; · iexact HO
    isplitr; · rw [MayWait_zero]; iempintro
    iexact As
  iintro ⟨HO, As, -, Hpay⟩
  ihave Hl := (Entails.of_eq ((rest_cell m .snd c).trans (pay_snd m c))) $$ Hpay
  ihave Hr := (Entails.of_eq (mine_eq fullShare.right c (stats m c)).symm) $$ Hr
  rw [wp_ret]
  imod (closed m (K (cell .bar c)) (cell .bar c)) $$ [Ab] with Zb
  · isplitr; · iexact Ib
    iexact Ab
  imod (closed m (K (cell .snd c)) (cell .snd c)) $$ [As] with Zs
  · isplitr; · iexact Is
    iexact As
  imod (closed m (K (cell .rcv c)) (cell .rcv c)) $$ [Ar] with Zr
  · isplitr; · iexact Ir
    iexact Ar
  imodintro
  iapply Hk
  unfold bodyPost
  isplitl [Zb Zs Zr]
  · isplitl [Zb]; · iexact Zb
    isplitl [Zs] <;> iassumption
  isplitl [Hl Hr]
  · iexists (stats m c)
    iapply (mine_halves c (stats m c)).2
    isplitl [Hl] <;> iassumption
  isplitl [Ht]
  · iexists (stats m (mate c))
    iapply (Entails.of_eq (theirs_eq c (stats m (mate c))).symm) $$ Ht
  isplitl [HO]; · iexists _; iexact HO
  isplitl [Hx]; · iexact Hx
  isplitl [Hg]; · iexact Hg
  isplitl [Hb]; · iexact Hb
  iexact Ho

end Cert.KernelIdealProof

end
-- ==== Proof.KernelIdealRun.lean ====
/-
# 01_k, the program's two segments

The host casts `x` to float32 and reshapes `gamma` and `beta` to rows, then the one region runs the exchange of `KernelIdealTalk`. This module gives
the region's data, shows that the body meets its obligation, and states what each segment starts from and ends with.
-/
module

public import proofs.«01_k».proof.Proof.KernelIdealTalk
public import Idealize.ShloMosaic.Lib.Pipeline.RegionTalk
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The windows are whole arrays -/

omit [FloatOps F] in
/-- Every window sits at offset zero. -/
theorem off_zero {n : Nat} (s : Fin n → Nat) : (fun a => 0 * s a) = fun _ => 0 := funext fun a => Nat.zero_mul _

omit [FloatOps F] in
/-- The one block of each window read out of its array is the array. -/
theorem x_read (f : (main_v1 : Ref sig .tc).ty.Contents (Elt F)) : (win0_0.blk t0_0).view.read (Elt F) f = f :=
  Memref.read_access_unit_zero (Elt F) main_v1 (off_zero _) _ f
omit [FloatOps F] in
theorem g_read (f : (main_v2 : Ref sig .tc).ty.Contents (Elt F)) : (win0_1.blk t0_0).view.read (Elt F) f = f :=
  Memref.read_access_unit_zero (Elt F) main_v2 (off_zero _) _ f
omit [FloatOps F] in
theorem b_read (f : (main_v3 : Ref sig .tc).ty.Contents (Elt F)) : (win0_2.blk t0_0).view.read (Elt F) f = f :=
  Memref.read_access_unit_zero (Elt F) main_v3 (off_zero _) _ f
omit [FloatOps F] in
theorem out_read (f : (main_v4 : Ref sig .tc).ty.Contents (Elt F)) : (win0_3.blk t0_0).view.read (Elt F) f = f :=
  Memref.read_access_unit_zero (Elt F) main_v4 (off_zero _) _ f

/-- The block of `x` the region stages is the float32 copy of `x`. -/
theorem xin_eq (c : Dev nD) : xin m c = V m c main_v1 := x_read (V m c main_v1)
/-- The block of `gamma` it stages is `gamma`, as a row. -/
theorem gin_eq (c : Dev nD) : gin m c = V m c main_v2 := g_read (V m c main_v2)
/-- The block of `beta` it stages is `beta`, as a row. -/
theorem bin_eq (c : Dev nD) : bin m c = V m c main_v3 := b_read (V m c main_v3)

omit [FloatOps F] in
/-- A rectangle of a buffer's own sizes at offset zero has every index of it. -/
theorem whole_set (b : Ref sig .tc) {off : Fin b.ty.shape.rank → Nat} (h : off = fun _ => 0)
    (inb : ∀ a, off a + b.ty.shape.size a ≤ b.ty.shape.size a) :
    ((Memref.whole b).access (Rect.unit off b.ty.shape.size inb) : View sig .tc _ _ _).set = Finset.univ := by
  subst h; exact Memref.set_access_whole b
omit [FloatOps F] in
/-- The output's one block covers the output. -/
theorem out_set : (win0_3.blk t0_0).view.set = Finset.univ := whole_set main_v4 (off_zero _) _

/-! ## The region's proof data -/

/-- The two scratch buffers at any contents. -/
def scratch (c : Dev nD) : sProp 𝕄 := iprop((∃ f, stg (F := F) c cc0_scratch0 f) ∗ ∃ f, stg (F := F) c cc0_scratch1 f)

/-- What the exchange brings into the region: its cells opened, its credit, the levels. -/
def brought (c : Dev nD) : sProp 𝕄 := iprop((∃ K, opened m K c) ∗ credits c ∗ levAts L lv)

/-- The send and receive counters at zero. -/
def quiet (c : Dev nD) : sProp 𝕄 := iprop(semVal (cell .snd c) 0 ∗ semVal (cell .rcv c) 0)

/-- The region's data: the arrays as the host operations leave them, the blocks after the body, what the body is handed
    and hands back, and the debt, owed before the one point and paid after it. -/
def dat (c : Dev nD) : Pipeline.Dat τ (Elt F) Unit ℕ UU ℕ cfg0 c where
  A w := V m c (Pipeline.arrRef spec0 w)
  after w _ := match w with
    | 0 => xin m c
    | 1 => gin m c
    | 2 => bin m c
    | 3 => outB m c
    | ⟨_ + 4, h⟩ => absurd h (Nat.not_lt.2 (Nat.le_add_left _ _))
  Φ t := if t.val = 0 then iprop(brought m c ∗ scratch c ∗ ∃ r, prngReg c r)
    else iprop(semVal (cell .bar c) 0 ∗ quiet c ∗ scratch c ∗ ∃ r, prngReg c r)
  q _ := fullShare
  owed t := if t.val = 0 then debt c else 0

/-- No table is prefetched, so the programs' one admission is the trivial one. -/
abbrev adm : (p : Fin 1) → (pcfgs (F := F) p).Adm := fun p => (cfgs p).toPCfg_adm
/-- The data of the one region. -/
def pdats : (p : Fin 1) → (c : Dev nD) → Pipeline.Dat τ (Elt F) Unit ℕ UU ℕ (Pipeline.pin (pcfgs (F := F)) adm p) c
  | 0 => dat m

theorem before_x (c : Dev nD) (d) : (dat m c).before 0 t0_0 d = xin m c := by
  unfold Dat.before; rw [if_pos (fetch0_0 t0_0)]; rfl
theorem before_g (c : Dev nD) (d) : (dat m c).before 1 t0_0 d = gin m c := by
  unfold Dat.before; rw [if_pos (fetch0_1 t0_0)]; rfl
theorem before_b (c : Dev nD) (d) : (dat m c).before 2 t0_0 d = bin m c := by
  unfold Dat.before; rw [if_pos (fetch0_2 t0_0)]; rfl

/-- After the region the output array holds `outB`. -/
theorem out_array (c : Dev nD) : (dat m c).arrAt 3 cfg0.N = outB m c :=
  (dat m c).arrAt_eq_of_cover 3 (outB m c)
    (fun t _ => by obtain rfl := fin_N0 t; exact (out_read (outB m c)).symm)
    (fun i => ⟨t0_0, flush0_3 t0_0, by
      show i ∈ (win0_3.blk t0_0).view.set
      rw [out_set]; exact Finset.mem_univ _⟩)

theorem owed_first (c : Dev nD) : (dat (F := F) m c).owed 0 = debt c := by
  show (if (0 : Fin (cfg0.N + 1)).val = 0 then debt c else 0) = debt c; exact if_pos rfl
theorem owed_start (c : Dev nD) : (dat (F := F) m c).owed t0_0.castSucc = debt c := by
  show (if (t0_0.castSucc : Fin (cfg0.N + 1)).val = 0 then debt c else 0) = debt c; exact if_pos rfl
theorem owed_last (c : Dev nD) : (dat (F := F) m c).owed (Fin.last _) = 0 := by
  show (if (Fin.last cfg0.N).val = 0 then debt c else 0) = 0
  exact if_neg (by rw [Fin.val_last, show cfg0.N = 1 from N_0]; decide)
theorem owed_end (c : Dev nD) : (dat (F := F) m c).owed t0_0.succ = 0 := by
  show (if (t0_0.succ : Fin (cfg0.N + 1)).val = 0 then debt c else 0) = 0
  exact if_neg (by rw [Fin.val_succ]; exact Nat.succ_ne_zero _)

/-- Owing `O` with any record of waits is owing what the data says. -/
theorem owes_in (c : Dev nD) (t : Fin (cfg0.N + 1)) (O : CellTallies nD τ sig Unit) (h0 : (dat (F := F) m c).owed t = O) (W : Waits sig Unit) :
    (owes (c : Thread nD τ) O W : sProp 𝕄) ⊢ ((dat m c).owesAt () t : sProp 𝕄) := by
  unfold Dat.owesAt Pipeline.owesWithin Dat.bound; rw [h0, show (dat (F := F) m c).recorded t = Set.univ from rfl]
  iintro HO; iexists W; isplitr; · ipureintro; exact fun _ _ => Or.inl trivial
  iexact HO
/-- And back. -/
theorem owes_out (c : Dev nD) (t : Fin (cfg0.N + 1)) (O : CellTallies nD τ sig Unit) (h0 : (dat (F := F) m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- What the body is handed, and what it hands back. -/
def before (c : Dev nD) : sProp 𝕄 := iprop(brought m c ∗ scratch c ∗ ∃ r, prngReg c r)
def afterwards (c : Dev nD) : sProp 𝕄 := iprop(semVal (cell .bar c) 0 ∗ quiet c ∗ scratch c ∗ ∃ r, prngReg c r)

theorem Φ_first (c : Dev nD) : (dat m c).Φ 0 = before m c := by
  show (if (0 : Fin (cfg0.N + 1)).val = 0 then before m c else afterwards c) = _; exact if_pos rfl
theorem Φ_start (c : Dev nD) : (dat m c).Φ t0_0.castSucc = before m c := by
  show (if (t0_0.castSucc : Fin (cfg0.N + 1)).val = 0 then before m c else afterwards c) = _; exact if_pos rfl
theorem Φ_last (c : Dev nD) : (dat m c).Φ (Fin.last _) = afterwards c := by
  show (if (Fin.last cfg0.N).val = 0 then before m c else afterwards c) = _
  exact if_neg (by rw [Fin.val_last, show cfg0.N = 1 from N_0]; decide)
theorem Φ_end (c : Dev nD) : (dat m c).Φ t0_0.succ = afterwards c := by
  show (if (t0_0.succ : Fin (cfg0.N + 1)).val = 0 then before m c else afterwards c) = _
  exact if_neg (by rw [Fin.val_succ]; exact Nat.succ_ne_zero _)

set_option maxHeartbeats 1600000 in
/-- The body meets its obligation: this is `body_run`. -/
theorem body_ok (c : Dev nD) : BodyObligation (dat (F := F) m c) defs₀ 𝒱₀ () Set.univ := fun t => by
  obtain rfl := fin_N0 t
  rw [bigSep_W0, bigSep_W0, Φ_start, Φ_end]
  show iprop(before m c ∗ (dat m c).owesAt () t0_0.castSucc
      ∗ (∃ d, owns (c : Thread nD τ) xM fullShare ((dat m c).before 0 t0_0 d))
      ∗ (∃ d, owns (c : Thread nD τ) gM fullShare ((dat m c).before 1 t0_0 d))
      ∗ (∃ d, owns (c : Thread nD τ) bM fullShare ((dat m c).before 2 t0_0 d))
      ∗ (∃ d, owns (c : Thread nD τ) oM fullShare ((dat m c).before 3 t0_0 d)))
    ⊢ wp frame (wpE (defs₀ (F := F)) 𝒱₀ c none) Set.univ
        (cc0_body xM (Memref.isWhole_whole _) gM (Memref.isWhole_whole _) bM (Memref.isWhole_whole _) oM (Memref.isWhole_whole _)
          mineM (Memref.isWhole_whole _) peerM (Memref.isWhole_whole _) cc0_scratch2 cc0_scratch3)
        fun _ => iprop(afterwards c ∗ (dat m c).owesAt () t0_0.succ
          ∗ owns (c : Thread nD τ) xM fullShare (xin m c) ∗ owns (c : Thread nD τ) gM fullShare (gin m c)
          ∗ owns (c : Thread nD τ) bM fullShare (bin m c) ∗ owns (c : Thread nD τ) oM fullShare (outB m c))
  simp only [owns_whole, before_x, before_g, before_b]
  unfold before afterwards brought scratch quiet
  iintro ⟨⟨⟨⟨%K, Hg⟩, Hc, Hlev⟩, ⟨⟨%f0, Hm⟩, ⟨%f1, Ht⟩⟩, Hreg⟩, HO, ⟨%d0, Hx⟩, ⟨%d1, Hgm⟩, ⟨%d2, Hb⟩, ⟨%d3, Ho⟩⟩
  ihave HO' := (owes_out m c _ (debt c) (owed_start m c)) $$ HO
  icases HO' with ⟨%W, HO⟩
  iapply (body_run m K c W _)
  isplitr [Hreg]
  · unfold bodyPre
    isplitl [Hg]; · iexact Hg
    isplitl [Hc]; · iexact Hc
    isplitl [Hlev]; · iexact Hlev
    isplitl [Hm]; · iexists f0; rw [mine_eq]; iexact Hm
    isplitl [Ht]; · iexists f1; rw [theirs_eq]; iexact Ht
    isplitl [HO]; · iexact HO
    isplitl [Hx]; · iexact Hx
    isplitl [Hgm]; · iexact Hgm
    isplitl [Hb]; · iexact Hb
    iexists _; iexact Ho
  unfold bodyPost
  iintro ⟨⟨Zb, Zs, Zr⟩, ⟨%f0', Hm⟩, ⟨%f1', Ht⟩, ⟨%W', HO⟩, Hx, Hgm, Hb, Ho⟩
  isplitl [Zb Zs Zr Hm Ht Hreg]
  · isplitl [Zb]; · iexact Zb
    isplitl [Zs Zr]; · isplitl [Zs] <;> iassumption
    isplitl [Hm Ht]
    · isplitl [Hm]
      · iexists f0'; iapply (Entails.of_eq (mine_eq fullShare c f0')) $$ Hm
      · iexists f1'; iapply (Entails.of_eq (theirs_eq c f1')) $$ Ht
    iexact Hreg
  isplitl [HO]; · iapply (owes_in m c t0_0.succ 0 (owed_end m c) W'); iexact HO
  isplitl [Hx]; · iexact Hx
  isplitl [Hgm]; · iexact Hgm
  isplitl [Hb]; · iexact Hb
  iexact Ho

/-! ## The region -/

/-- The kernel's own scoped semaphores: send and receive. -/
abbrev own : Fin 2 → SemLoc sig := fun | 0 => ksem .snd | 1 => ksem .rcv

omit [FloatOps F] in
theorem own_eq (c : Dev nD) : (Pipeline.ownSems0 own c : sProp 𝕄) = quiet c :=
  BI.bigSep_fin_two (fun k : Fin 2 => (semVal ((c : Thread nD τ), own k) 0 : sProp 𝕄))

/-- The arrays the windows stage, and the other unscoped buffers. -/
abbrev staged : Finset (DevRef τ sig) := Pipeline.arrRefs (τ := τ) (pcfgs (F := F) 0).spec
abbrev others : Finset (DevRef τ sig) := Pipeline.ucRefs τ sig \ staged (F := F)

theorem staged_sub : staged (F := F) ⊆ Pipeline.ucRefs τ sig :=
  Pipeline.arrRefs_sub_ucRefs _ (show ∀ w : Fin 4, (Pipeline.arrRef spec0 w).isScoped = false by decide)

/-- The buffers at launch, after the host operations, and after the region. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v4) (outB m c)

/-- The region writes its output array, -/
theorem V₂_out (c : Dev nD) : V₂ m c (Proc.devRef .tc main_v4) = outB m c := Function.update_self _ _ _
/-- and no other buffer. -/
theorem V₂_of_ne (c : Dev nD) {b : DevRef τ sig} (h : b ≠ Proc.devRef .tc main_v4) : V₂ m c b = V₁ m c b := Function.update_of_ne h _ _

/-- The arguments come through the region. -/
theorem V₂_arg0 (c : Dev nD) : V₂ m c (Proc.devRef .tc main_arg0) = m ((c : Thread nD τ).loc main_arg0) :=
  (V₂_of_ne m c (StableHlo.devRef_ne_of_ne (by decide))).trans (V_main_arg0 m c)
theorem V₂_arg1 (c : Dev nD) : V₂ m c (Proc.devRef .tc main_arg1) = m ((c : Thread nD τ).loc main_arg1) :=
  (V₂_of_ne m c (StableHlo.devRef_ne_of_ne (by decide))).trans (V_main_arg1 m c)
theorem V₂_arg2 (c : Dev nD) : V₂ m c (Proc.devRef .tc main_arg2) = m ((c : Thread nD τ).loc main_arg2) :=
  (V₂_of_ne m c (StableHlo.devRef_ne_of_ne (by decide))).trans (V_main_arg2 m c)

/-- The output is staged, so it is none of the others. -/
theorem out_staged : (Proc.devRef .tc main_v4 : DevRef τ sig) ∈ staged (F := F) :=
  Finset.mem_map_of_mem _ (Finset.mem_image_of_mem _ (Finset.mem_univ (3 : Fin 4)))
theorem others_same (c : Dev nD) {b : DevRef τ sig} (hb : b ∈ others (F := F)) : V₂ m c b = V₁ m c b :=
  V₂_of_ne m c fun h => (Finset.mem_sdiff.mp hb).2 (h ▸ out_staged)

/-- The layout facts of the one region. -/
theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What stays with a device from launch to the region. -/
def kept (c : Dev nD) : sProp 𝕄 := iprop((∃ K, dealt m K c) ∗ credits c)

/-- Entering the region opens the send and receive cells. -/
theorem enter (c : Dev nD) : iprop(kept m c ∗ Pipeline.ownSems0 own c ∗ levAts L lv) ⊢ (|={Set.univ}=> brought m c : sProp 𝕄) := by
  rw [own_eq]
  unfold kept brought quiet dealt invs
  iintro ⟨⟨⟨%K, ⟨#Ib, #Is, #Ir, #Ibm, #Irm⟩, Ab, Os, Or, #Rbm, Hd⟩, Hc⟩, ⟨Zs, Zr⟩, #Hlev⟩
  imod (Rounds.cell_open ER (sched m) (g := cell .snd c) (Set.mem_univ (K (cell .snd c)))) $$ [Os Zs] with ⟨As, #Rs⟩
  · isplitr; · iexact Is
    isplitl [Os] <;> iassumption
  imod (Rounds.cell_open ER (sched m) (g := cell .rcv c) (Set.mem_univ (K (cell .rcv c)))) $$ [Or Zr] with ⟨Ar, #Rr⟩
  · isplitr; · iexact Ir
    isplitl [Or] <;> iassumption
  imodintro
  isplitl [Ab As Ar Hd]
  · iexists K; unfold opened invs
    isplitr
    · isplitr; · iexact Ib
      isplitr; · iexact Is
      isplitr; · iexact Ir
      isplitr; · iexact Ibm
      iexact Irm
    isplitl [Ab]; · iexact Ab
    isplitl [As]; · iexact As
    isplitl [Ar]; · iexact Ar
    isplitr; · iexact Rbm
    isplitr; · iexact Rs
    isplitr; · iexact Rr
    iexact Hd
  isplitl [Hc]; · iexact Hc
  iexact Hlev

/-- What the region brings in makes the body's precondition. -/
theorem region_in (c : Dev nD) : iprop(Pipeline.scopedRest (Pipeline.pin (pcfgs (F := F)) adm 0).spec c ∗ (∃ r, prngReg c r)
      ∗ StableHlo.held (c.tc : Thread nD τ) ∅ (V₁ m c) ∗ brought m c) ⊢ (pdats m 0 c).Φ 0 := by
  rw [show (pdats m 0 c).Φ 0 = before m c from Φ_first m c,
    show (Pipeline.scopedRest (Pipeline.pin (pcfgs (F := F)) adm 0).spec c : sProp 𝕄) = scratch c from scopedRest0_eq c]
  unfold before
  iintro ⟨Hs, Hp, -, HX⟩
  isplitl [HX]; · iexact HX
  isplitl [Hs] <;> iassumption

/-- What the body leaves is what the region must return. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 own c ∗ semVal (cell .bar c) 0) := by
  rw [show (pdats m 0 c).Φ (Fin.last _) = afterwards c from Φ_last m c, own_eq,
    show (Pipeline.scopedRest (Pipeline.pin (pcfgs (F := F)) adm 0).spec c : sProp 𝕄) = scratch c from scopedRest0_eq c,
    show (StableHlo.held (c.tc : Thread nD τ) ∅ (V₂ m c) : sProp 𝕄) = BI.emp from BI.bigSep_empty]
  unfold afterwards
  iintro ⟨Hb, Hq, Hs, Hp⟩
  isplitl [Hs]; · iexact Hs
  isplitl [Hp]; · iexact Hp
  isplitr; · iempintro
  isplitl [Hq] <;> iassumption

/-- Whatever a device owes lies above the staging cells. -/
theorem above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then debt c else 0 := rfl
  rw [e] at h
  split at h
  · rcases debt_pos h with rfl | rfl
    · exact ⟨mem_L _ _ _, by rw [lv_cell]; decide⟩
    · exact ⟨mem_L _ _ _, by rw [lv_cell]; decide⟩
  · exact absurd h (Nat.lt_irrefl 0)

/-- The staging cells are at the lowest level. -/
theorem below (c : Dev nD) : ∀ w : Fin 4, ∀ s : Fin (spec0 w).nbuf, lv ((c : Thread nD τ), .dma ((spec0 w).sem s)) () ≤ 0 := by
  intro w s
  unfold lv
  rw [show kindOf (.dma ((spec0 w).sem s)) = none from by revert w s; decide]

/-- At entry every array is as the host operations left it. -/
theorem arrays_in (c : Dev nD) (w : Fin 4) : (dat m c).arrAt w 0 = V₁ m c (Proc.devRef .tc (Pipeline.arrRef spec0 w)) := rfl
/-- At exit the output is written and the inputs are as they were. -/
theorem arrays_out (c : Dev nD) : ∀ w : Fin 4, (dat m c).arrAt w cfg0.N = V₂ m c (Proc.devRef .tc (Pipeline.arrRef spec0 w))
  | 0 => ((dat m c).arrAt_in 0 rfl _).trans (V₂_of_ne m c (b := Proc.devRef .tc main_v1) (StableHlo.devRef_ne_of_ne (by decide))).symm
  | 1 => ((dat m c).arrAt_in 1 rfl _).trans (V₂_of_ne m c (b := Proc.devRef .tc main_v2) (StableHlo.devRef_ne_of_ne (by decide))).symm
  | 2 => ((dat m c).arrAt_in 2 rfl _).trans (V₂_of_ne m c (b := Proc.devRef .tc main_v3) (StableHlo.devRef_ne_of_ne (by decide))).symm
  | 3 => (out_array m c).trans (V₂_out m c).symm
  | ⟨_ + 4, h⟩ => absurd h (Nat.not_lt.2 (Nat.le_add_left _ _))

/-- Every array is held whole. -/
theorem share_full (c : Dev nD) : ∀ w : Fin 4, (dat m c).share w = fullShare := by
  intro w; unfold Dat.share; split <;> rfl

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The region. -/
def region : ℝ𝕊 0 :=
  Pipeline.RegionSeg.ofTalk (pcfgs (F := F)) adm (pdats m) () defs₀ 𝒱₀ L lv 0 own (by decide : Pipeline.OwnSemFacts spec0 own)
    ∅ (others (F := F)) (Finset.empty_subset _) layout rfl (fun c => (body_ok m c).loose)
    (fun _ => 0) debt (fun c => (owed_first m c).trans (zero_add _).symm) (owed_last m) (fun _ => rfl) (share_full m)
    (V₁ m) (V₂ m) (fun c b hb => others_same m c (Finset.mem_sdiff.mp hb).1)
    (kept m) (fun c => semVal (cell .bar c) 0) (brought m) (fun c => semVal (cell .bar c) 0) (enter m) (region_in m) (region_out m)
    (fun c => by iintro H; imodintro; iexact H)
    (fun _ => 0)
    ⟨fun c _ _ => mem_L c _ _, fun c w s => below c w s, fun c t g i h => above m c t g i h⟩
    (fun _ => iprop(emp))
    (arrays_in m) (arrays_out m)

/-- What rides beside the buffers up to the region. -/
def riding (c : Dev nD) : sProp 𝕄 := iprop((kept m c ∗ ∃ r, prngReg c r) ∗ ∃ W, owes (c : Thread nD τ) (debt c) W)

/-- The host's casts and reshapes. -/
def host : ℍ :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m) (riding m)

/-- What the region is entered from. -/
theorem region_pre (c : Dev nD) : iprop(StableHlo.held (c : Thread nD τ) (Pipeline.ucRefs τ sig) (V₁ m c) ∗ riding m c) ⊢ (region m).pre c := by
  show _ ⊢ iprop(StableHlo.held (c.tc : Thread nD τ) (staged (F := F)) (V₁ m c) ∗ (∃ r, prngReg c r)
    ∗ (StableHlo.held (c.tc : Thread nD τ) (others (F := F)) (V₁ m c) ∗ emp) ∗ kept m c ∗ ∃ Wd, owes (c : Thread nD τ) (0 + debt c) Wd)
  rw [zero_add, StableHlo.held_sub_split (c.tc : Thread nD τ) (staged_sub (F := F)) (V₁ m c)]
  unfold riding
  iintro ⟨⟨Ha, Ho⟩, ⟨HK, Hp⟩, HO⟩
  isplitl [Ha]; · iexact Ha
  isplitl [Hp]; · iexact Hp
  isplitl [Ho]
  · isplitl [Ho]; · iexact Ho
    iempintro
  isplitl [HK] <;> iassumption

/-- What it is left with. -/
theorem region_post (c : Dev nD) : (region m).post c
    ⊢ iprop((StableHlo.held (c : Thread nD τ) (Pipeline.ucRefs τ sig) (V₂ m c) ∗ semVal (cell .bar c) 0)
      ∗ ∃ W, owes (c : Thread nD τ) (0 : CellTallies nD τ sig Unit) W) := by
  show iprop(StableHlo.held (c.tc : Thread nD τ) (staged (F := F)) (V₂ m c) ∗ (∃ r, prngReg c r)
    ∗ (StableHlo.held (c.tc : Thread nD τ) (others (F := F)) (V₂ m c) ∗ emp) ∗ (semVal (cell .bar c) 0 : sProp 𝕄)
    ∗ ∃ Wd, owes (c : Thread nD τ) (0 : CellTallies nD τ sig Unit) Wd) ⊢ _
  rw [StableHlo.held_sub_split (c.tc : Thread nD τ) (staged_sub (F := F)) (V₂ m c)]
  iintro ⟨Ha, -, ⟨Ho, -⟩, Hb, HO⟩
  isplitr [HO]
  · isplitr [Hb]
    · isplitl [Ha] <;> iassumption
    iexact Hb
  iexact HO

/-- The program as its two segments. -/
def segs : List (Pipeline.Seg (pcfgs (F := F)) adm (pdats m) () defs₀ 𝒱₀ L lv) := [.host (host m), .region (region m)]

end Cert.KernelIdealProof

end
-- ==== Proof.KernelIdealLaunch.lean ====
/-
# 01_k, the launch and the run

The launch deals the cells' ghost state, the credit and the debts to the devices; then the two segments run. Every
device ends with `outB` in its output array, its arguments as they were, and every semaphore at zero.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the payment rights -/

/-- Where a cell of a kind sits, for every device. -/
def at_ (k : Kind) : Dev nD ↪ GSem nD τ sig := ⟨cell k, fun _ _ h => congrArg (fun g : GSem nD τ sig => g.1.1) h⟩
/-- The send and receive cells. -/
def at_own : Dev nD × Fin 2 ↪ GSem nD τ sig :=
  ⟨fun x => ((x.1 : Thread nD τ), own x.2), fun _ _ h =>
    Prod.ext (congrArg (fun g : GSem nD τ sig => g.1.1) h) ((by decide : Function.Injective own) (congrArg Prod.snd h))⟩

/-- The barrier cells, funded with their counters, and the scoped cells, funded closed. -/
abbrev bars : Finset (GSem nD τ sig) := Finset.univ.map (at_ .bar)
abbrev inner : Finset (GSem nD τ sig) := Finset.univ.map at_own

/-- The kinds in a row. -/
abbrev kinds : Fin 3 → Kind := fun | 0 => .bar | 1 => .rcv | 2 => .snd
theorem kinds_inj : Function.Injective kinds := by decide
/-- One payment right a cell. -/
def rights : Finset (GSem nD τ sig × ℕ × Unit) :=
  Finset.univ.map ⟨fun x : Dev nD × Fin 3 => (cell (kinds x.2) x.1, 0, ()), fun _ _ h =>
    Prod.ext (congrArg (fun t : GSem nD τ sig × ℕ × Unit => t.1.1.1) h)
      (kinds_inj (ksem_inj (congrArg (fun t : GSem nD τ sig × ℕ × Unit => t.1.2) h)))⟩

theorem own_ne_bar : ∀ k : Fin 2, own k ≠ ksem .bar := by decide
theorem apart : Disjoint (bars : Finset (GSem nD τ sig)) inner := by
  rw [Finset.disjoint_left]
  rintro g h₁ h₂
  obtain ⟨c, -, rfl⟩ := Finset.mem_map.mp h₁
  obtain ⟨x, -, h⟩ := Finset.mem_map.mp h₂
  exact own_ne_bar x.2 (congrArg Prod.snd h)

theorem mem_bar (c : Dev nD) : cell .bar c ∈ (bars ∪ inner : Finset (GSem nD τ sig)) :=
  Finset.mem_union_left _ (Finset.mem_map_of_mem (at_ .bar) (Finset.mem_univ c))
theorem mem_snd (c : Dev nD) : cell .snd c ∈ (bars ∪ inner : Finset (GSem nD τ sig)) :=
  Finset.mem_union_right _ (Finset.mem_map_of_mem at_own (Finset.mem_univ (c, (0 : Fin 2))))
theorem mem_rcv (c : Dev nD) : cell .rcv c ∈ (bars ∪ inner : Finset (GSem nD τ sig)) :=
  Finset.mem_union_right _ (Finset.mem_map_of_mem at_own (Finset.mem_univ (c, (1 : Fin 2))))

/-- The launch element: the pipeline's staging cells, and the exchange's. -/
def u₀ : UU :=
  (initOf (Pipeline.cells (Pipeline.pin (pcfgs (F := F)) adm) cellOf_inj) (Pipeline.launchToks (Pipeline.pin (pcfgs (F := F)) adm) cellOf_inj),
    launchOf bars inner rights)

/-- A resource dealt whole to device 0. -/
def parked (X : sProp 𝕄) (c : Dev nD) : sProp 𝕄 := if c = 0 then X else iprop(emp)
omit [FloatOps F] in
/-- Gathered from all devices it is the resource. -/
theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The exchange's launch element, parked until the ghost state is dealt. -/
def seed : Dev nD → sProp 𝕄 := parked (BI.own (ER (launchOf bars inner rights)))

/-! ## Dealing -/

/-- What every device may look up: the cells' invariants, and that the barriers are open. -/
def known (κ : GSem nD τ sig → ℕ) : sProp 𝕄 :=
  iprop((bigSep (bars ∪ inner) fun g => cellInv ER (sched m) (κ g) g) ∗ bigSep bars fun g => reached ER g 0)

instance known_persistent (κ : GSem nD τ sig → ℕ) : BI.Persistent (known m κ) := by unfold known; infer_instance

theorem know_inv (κ : GSem nD τ sig → ℕ) {g : GSem nD τ sig} (hg : g ∈ (bars ∪ inner : Finset (GSem nD τ sig))) :
    known m κ ⊢ cellInv ER (sched m) (κ g) g := by
  unfold known
  iintro ⟨H, -⟩
  iapply (show (bigSep (bars ∪ inner) fun g => (cellInv ER (sched m) (κ g) g : sProp 𝕄)) ⊢ cellInv ER (sched m) (κ g) g from bigSep_elim hg) $$ H
theorem know_bar (κ : GSem nD τ sig → ℕ) (c : Dev nD) : known m κ ⊢ reached ER (cell .bar c) 0 := by
  unfold known
  iintro ⟨-, H⟩
  iapply (show (bigSep bars fun g => (reached ER g 0 : sProp 𝕄)) ⊢ reached ER (cell .bar c) 0 from
    bigSep_elim (Finset.mem_map_of_mem (at_ .bar) (Finset.mem_univ c))) $$ H

/-- What only device `c` gets: its barrier's position, the rights to open its scoped cells, its payment rights. -/
def sole (c : Dev nD) : sProp 𝕄 :=
  iprop(atPos ER (cell .bar c) 0 ∅ 0 ∗ (openTok ER (cell .snd c) ∗ openTok ER (cell .rcv c)) ∗ dues c)

/-- The two together are the device's share of the ghost state. -/
theorem deal (κ : GSem nD τ sig → ℕ) (c : Dev nD) : iprop(known m κ ∗ sole c) ⊢ iprop(∃ K, dealt m K c) := by
  unfold sole dealt invs
  iintro ⟨#HK, HaB, ⟨HoS, HoV⟩, Hd⟩
  iexists κ
  isplitr
  · isplitr; · iapply (know_inv m κ (mem_bar c)); iexact HK
    isplitr; · iapply (know_inv m κ (mem_snd c)); iexact HK
    isplitr; · iapply (know_inv m κ (mem_rcv c)); iexact HK
    isplitr; · iapply (know_inv m κ (mem_bar (mate c))); iexact HK
    iapply (know_inv m κ (mem_rcv (mate c))); iexact HK
  isplitl [HaB]; · iexact HaB
  isplitl [HoS]; · iexact HoS
  isplitl [HoV]; · iexact HoV
  isplitr; · iapply (know_bar m κ (mate c)); iexact HK
  iexact Hd

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The payment rights of all cells, each handed to the device that pays: the mate, but for the send cell. -/
theorem rights_dealt : bigSep rights (fun x => (dutyTok ER x.1 x.2.1 x.2.2 : sProp 𝕄)) ⊢ bigSep Finset.univ (dues (F := F)) := by
  have h : bigSep rights (fun x => (dutyTok ER x.1 x.2.1 x.2.2 : sProp 𝕄))
      = bigSep Finset.univ fun c : Dev nD => iprop(dutyTok ER (cell .bar c) 0 () ∗ dutyTok ER (cell .rcv c) 0 () ∗ dutyTok ER (cell .snd c) 0 ()) := by
    unfold rights; rw [bigSep_map, bigSep_univ_prod]
    exact bigSep_congr fun c _ => by rw [bigSep_three]; rfl
  rw [h]
  unfold dues
  rw [bigSep_sep', bigSep_sep', bigSep_sep', bigSep_sep', bigSep_univ_equiv mates (fun c : Dev nD => (dutyTok ER (cell .bar c) 0 () : sProp 𝕄)),
    bigSep_univ_equiv mates (fun c : Dev nD => (dutyTok ER (cell .rcv c) 0 () : sProp 𝕄))]
  exact BI.Entails.refl _

/-! ## The credit a launch gives -/

/-- A single debt at a mate's cell, seen from a cell of the same kind. -/
theorem tally_mate (k : Kind) (n : ℕ) (d c : Dev nD) :
    (tallyAt (cell k (mate d)) () n : CellTallies nD τ sig Unit) (cell k c) () = if d = mate c then n else 0 := by
  rw [tallyAt_apply]
  by_cases h : d = mate c
  · subst h; rw [mate_mate, if_pos ⟨rfl, rfl⟩, if_pos rfl]
  · rw [if_neg h, if_neg]
    rintro ⟨e, -⟩
    exact h (by rw [show c = mate d from congrArg (fun g : GSem nD τ sig => g.1.1) e, mate_mate])
/-- Seen from a cell of another kind it is nothing. -/
theorem tally_other {k k' : Kind} (h : k ≠ k') (n : ℕ) (d c : Dev nD) :
    (tallyAt (cell k' d) () n : CellTallies nD τ sig Unit) (cell k c) () = 0 := by
  rw [tallyAt_apply, if_neg]
  rintro ⟨e, -⟩
  exact h (ksem_inj (congrArg Prod.snd e))

/-- What device `d` owes device `c`'s cells. -/
theorem debt_bar (d c : Dev nD) : debt d (cell .bar c) () = if d = mate c then 1 else 0 := by
  unfold debt
  rw [Pi.add_apply, Finsupp.add_apply, tally_mate, tally_other (by decide), Nat.zero_add]
theorem debt_rcv (d c : Dev nD) : debt d (cell .rcv c) () = if d = mate c then N else 0 := by
  unfold debt
  rw [Pi.add_apply, Finsupp.add_apply, tally_mate, tally_other (by decide), Nat.add_zero]

/-- The launch credits a cell with what its one debtor owes it. -/
theorem credit (k : Kind) (n : ℕ) (c : Dev nD) (h : ∀ d, debt d (cell k c) () = if d = mate c then n else 0) :
    tallyOn (cell k c) (launchCredit (Pipeline.owing debt) 0 (cell k c)) = (tallyAt (cell k c) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (mate c) fun _ => n, if_pos (Finset.mem_univ _)]

omit [FloatOps F] in
theorem credits_dealt (c : Dev nD) : (Pipeline.launchCred debt c : sProp 𝕄) ⊢ credits c := by
  unfold Pipeline.launchCred credits
  rw [bigSep_univ_at _ (ksem .bar), credit .bar 1 c fun d => debt_bar d c]
  refine sep_mono_right ?_
  rw [← credit .rcv N c fun d => debt_rcv d c]
  exact bigSep_elim (Finset.mem_erase.mpr ⟨by decide, Finset.mem_univ _⟩)

/-! ## The run -/

/-- The barrier is the one semaphore that outlives the region. -/
theorem unscoped_one : ∀ sm : SemLoc sig, sm.isScoped .tc = false → sm = ksem .bar := by decide
omit [FloatOps F] in
theorem unscoped_sems (c : Dev nD) : (unscopedSems0 c : sProp 𝕄) = semVal (cell .bar c) 0 := by
  unfold unscopedSems0
  rw [show (Finset.univ.filter fun sm : SemLoc sig => ¬ sm.isScoped .tc) = {ksem .bar} from by decide, BI.bigSep_singleton]

/-- What a device starts the program with. -/
abbrev start (c : Dev nD) : sProp 𝕄 := iprop(StableHlo.held (c : Thread nD τ) (Pipeline.ucRefs τ sig) (V₀ m c) ∗ riding m c)
/-- What it ends it with. -/
abbrev finish (c : Dev nD) : sProp 𝕄 := iprop(StableHlo.held (c : Thread nD τ) (Pipeline.ucRefs τ sig) (V₂ m c) ∗ semVal (cell .bar c) 0)

/-- The part of a device's launch holdings that is not ghost state of the exchange. -/
def plain (c : Dev nD) : sProp 𝕄 :=
  iprop(StableHlo.held (c : Thread nD τ) (Pipeline.ucRefs τ sig) (V₀ m c) ∗ credits c ∗ owes (c : Thread nD τ) (debt c) ∅ ∗ ∃ r, prngReg c r)

theorem start_of (κ : GSem nD τ sig → ℕ) (c : Dev nD) : iprop(known m κ ∗ (sole c ∗ plain m c)) ⊢ start m c := by
  unfold plain start riding kept
  iintro ⟨#HK, Hl, Hh, Hc, HO, Hp⟩
  isplitl [Hh]; · iexact Hh
  isplitr [HO]
  · isplitr [Hp]
    · isplitl [Hl]
      · iapply (deal m κ c)
        isplitr; · iexact HK
        iexact Hl
      iexact Hc
    iexact Hp
  · iexists ∅; iexact HO

/-- A device's launch holdings, sorted. -/
theorem sorted (c : Dev nD) : iprop(unscopedBufs c (fun b => m ((c : Thread nD τ).loc b)) ∗ unscopedSems0 c
      ∗ owes (c : Thread nD τ) (debt c) ∅ ∗ Pipeline.launchCred debt c ∗ prngReg c (ρ c) ∗ seed c)
    ⊢ (iprop(plain m c ∗ (semVal (cell .bar c) 0 ∗ seed c)) : sProp 𝕄) := by
  rw [show unscopedBufs c (fun b => m ((c : Thread nD τ).loc b)) = StableHlo.held (c : Thread nD τ) (Pipeline.ucRefs τ sig) (V₀ m c)
      from Pipeline.unscopedBufs_held c (V₀ m c), unscoped_sems]
  unfold plain
  iintro ⟨Hh, Hus, HO, Hcr, Hp, HG⟩
  isplitr [Hus HG]
  · isplitl [Hh]; · iexact Hh
    isplitl [Hcr]; · iapply (credits_dealt (F := F) c) $$ Hcr
    isplitl [HO]; · iexact HO
    iexists (ρ c); iexact Hp
  isplitl [Hus] <;> iassumption

/-- The launch: the cells are made from the barrier counters and the seed, and everything is dealt. -/
theorem launch :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ seed c)) ∗ levAts L lv)
      ⊢ (|={Set.univ}=> bigSep Finset.univ (start m) : sProp 𝕄) := by
  have hv : bigSep Finset.univ (fun c : Dev nD => (semVal (cell .bar c) 0 : sProp 𝕄)) ⊢ bigSep bars (fun g => (semVal g 0 : sProp 𝕄)) :=
    Entails.of_eq (bigSep_map (s := Finset.univ) (at_ .bar) (Φ := fun g : GSem nD τ sig => (semVal g 0 : sProp 𝕄))).symm
  have hat : bigSep bars (fun g => (atPos ER g 0 ∅ 0 : sProp 𝕄)) ⊢ bigSep Finset.univ (fun c : Dev nD => (atPos ER (cell .bar c) 0 ∅ 0 : sProp 𝕄)) :=
    Entails.of_eq (bigSep_map (s := Finset.univ) (at_ .bar) (Φ := fun g : GSem nD τ sig => (atPos ER g 0 ∅ 0 : sProp 𝕄)))
  have hopen : bigSep inner (fun g => (openTok ER g : sProp 𝕄))
      ⊢ bigSep Finset.univ (fun c : Dev nD => iprop(openTok ER (cell .snd c) ∗ openTok ER (cell .rcv c))) :=
    Entails.of_eq (by
      rw [bigSep_map, bigSep_univ_prod]
      exact bigSep_congr fun c _ => BI.bigSep_fin_two (fun k : Fin 2 => (openTok ER ((c : Thread nD τ), own k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ seed c))
      ⊢ (bigSep Finset.univ fun c : Dev nD => iprop(plain m c ∗ (semVal (cell .bar c) 0 ∗ seed c)) : sProp 𝕄) from
        bigSep_mono fun c _ => sorted m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (seed (F := F)) ⊢ BI.own (ER (launchOf bars inner rights)) from
    Entails.of_eq (parked_all (F := F) (BI.own (ER (launchOf bars inner rights))))) $$ HG
  imod (Rounds.fund_launch ER (sched m) apart (fun g _ h => h) rights) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(sole c ∗ plain m c)) fun c _ => start_of m κ c)
  isplitr
  · unfold known
    isplitr; · iexact Hinv
    iexact Hr
  iapply (Entails.of_eq (bigSep_sep' _ _ _).symm)
  isplitr [HB]
  · unfold sole
    iapply (Entails.of_eq (bigSep_sep' _ _ _).symm); isplitl [Hat]; · iapply hat $$ Hat
    iapply (Entails.of_eq (bigSep_sep' _ _ _).symm); isplitl [Hopen]; · iapply hopen $$ Hopen
    iapply (rights_dealt (F := F)) $$ Htok
  · iexact HB

/-- What the final memory of a device is read at: the arguments, the output and the barrier's counter. -/
def Ends (c : Dev nD) (s : MemSt nD τ sig (Elt F)) : Prop :=
  (∀ b ∈ Pipeline.ucRefs τ sig, s.mem ((c : Dev nD), b) = V₂ m c b) ∧ s.sem (cell .bar c) = 0

/-- An unscoped buffer of the core is among those read. -/
theorem mem_uc {b : Ref sig .tc} (h : b.isScoped = false) : (Proc.devRef .tc b : DevRef τ sig) ∈ Pipeline.ucRefs τ sig :=
  Finset.mem_filter.mpr ⟨StableHlo.devRef_mem_tcRefs _, fun h' => Bool.false_ne_true (h.symm.trans h')⟩

set_option backward.isDefEq.respectTransparency.types false in
/-- THE RUN: every execution ends, with `outB` in every device's output, the arguments as they were, and every
    semaphore at zero. -/
theorem run : θ_run defs (onTc (τ := τ) (main (F := F))) (s₀ m ρ)
    (fun r => (∀ c : Dev nD, r.2.mem ((c.tc : Thread nD τ).loc main_v4) = outB m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; rfl)
    (by simp only [segs, Pipeline.Seg.pipes_host, Pipeline.Seg.pipes_region, Pipeline.Seg.pipes_nil]; decide)
    (O₀ := debt) (hL := L_of_ne) (G := seed) (u₀ := u₀)
    (hu₀ := by
      unfold u₀ seed
      iintro Hu
      ihave H := (ownU_pair _ _) $$ Hu
      icases H with ⟨HP, HX⟩
      imodintro
      isplitl [HP]; · iexact HP
      rw [parked_all]; iexact HX)
    (T₀ := start m) (Tₙ := finish m)
    (hch := ⟨fun c => .rfl, fun c => region_pre m c, fun c => region_post m c⟩)
    (hinit := launch m ρ)
    (QY := Ends m)
    (hfin := fun c s' => by
      dsimp only [finish]; unfold StableHlo.held
      iintro ⟨⟨Hh, Hb0⟩, HSI⟩
      ihave Hr := (pointsTo_read_all (Pipeline.ucRefs τ sig) (fun b => ((c.tc : Thread nD τ).1, b)) (V₂ m c) s') $$ [Hh HSI]
      · isplitl [Hh]; · iexact Hh
        iexact HSI
      icases Hr with ⟨%hr, HSI⟩
      icombine HSI Hb0 gives %hb
      imodintro
      isplitr
      · ipureintro
        exact ⟨hr, by simpa using hb⟩
      iexact HSI)
    (hQ := fun s h hs => ⟨fun c =>
        ⟨((h c).1 _ (mem_uc (b := main_v4) (by decide))).trans (V₂_out m c), ((h c).1 _ (mem_uc (b := main_arg0) (by decide))).trans (V₂_arg0 m c),
          ((h c).1 _ (mem_uc (b := main_arg1) (by decide))).trans (V₂_arg1 m c), ((h c).1 _ (mem_uc (b := main_arg2) (by decide))).trans (V₂_arg2 m c)⟩,
      sem_eq_zero hs fun c sm hsm => by
        obtain rfl := unscoped_one sm hsm
        exact (h c).2⟩)

end Cert.KernelIdealProof

end
-- ==== Proof.Norm.lean ====
/-
# 01_k, the arithmetic of one row

A row of 1024 real numbers, normalised in two ways. The reference takes the mean of the squared distances from the
mean, and divides by the square root. The kernel takes the mean of the squares less the square of the mean, and
multiplies by the reciprocal square root. On real rows both are one number, whatever the scale and the shift are.
-/
module

public import Idealize.ShloMosaic.Lib.IdealHost

@[expose] public section

noncomputable section

namespace Cert.Norm

open Idealize.ShloMosaic
open scoped BigOperators

/-! ## The two constants -/

/-- The length of a row, as both programs write it. -/
theorem len_eq : Ideal.ofBits .f32 0x44800000#32 = ((1024 : ℝ) : EReal) := by
  simp [Ideal.ofBits, Ideal.ieee, -EReal.coe_mul]; norm_num

/-- The number added to the variance is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The length of a row. -/
abbrev len : EReal := Ideal.ofBits .f32 0x44800000#32
/-- The number added to the variance. -/
abbrev eps : EReal := Ideal.ofBits .f32 0x3727C5AC#32

/-! ## The two formulas -/

/-- The mean of a row. -/
def mean (X : Fin 1024 → EReal) : EReal := Ideal.div (∑ k, X k) len
/-- The mean squared distance from the mean. -/
def var (X : Fin 1024 → EReal) : EReal := Ideal.div (∑ k, (X k - mean X) * (X k - mean X)) len
/-- The reference's element: scale times distance from the mean, over the root of the variance, plus the shift. -/
def refOut (X : Fin 1024 → EReal) (x g b : EReal) : EReal :=
  Ideal.div (g * (x - mean X)) (Ideal.sqrt (var X + eps)) + b
/-- The kernel's element, from the row's sum `s` and sum of squares `q`. -/
def kerOut (s q x g b : EReal) : EReal :=
  (x - Ideal.div s len)
    * Ideal.rsqrt (Ideal.div q len - Ideal.div s len * Ideal.div s len + eps) * g + b

/-! ## On real rows they agree -/

/-- A finite sum of real numbers is real. -/
theorem sum_coe {n : ℕ} (f : Fin n → ℝ) : (∑ k, ((f k : ℝ) : EReal)) = ((∑ k, f k : ℝ) : EReal) :=
  (map_sum (⟨⟨Real.toEReal, EReal.coe_zero⟩, EReal.coe_add⟩ : ℝ →+ EReal) f Finset.univ).symm

/-- A real number over the length of a row. -/
theorem div_len (r : ℝ) : Ideal.div (r : EReal) len = ((r / 1024 : ℝ) : EReal) := by
  rw [len, len_eq, Ideal.div_coe (by norm_num), ← EReal.coe_mul]
  congr 1
  ring

/-- The mean of the squares less the square of the mean is the mean squared distance from the mean. -/
theorem var_real (f : Fin 1024 → ℝ) :
    (∑ k, (f k - (∑ j, f j) / 1024) * (f k - (∑ j, f j) / 1024)) / 1024
      = (∑ k, f k * f k) / 1024 - (∑ j, f j) / 1024 * ((∑ j, f j) / 1024) := by
  set μ : ℝ := (∑ j, f j) / 1024 with hμ
  have hs : ∑ j, f j = 1024 * μ := by rw [hμ]; ring
  have h : ∑ k, (f k - μ) * (f k - μ) = ∑ k, f k * f k - 2 * μ * ∑ k, f k + 1024 * (μ * μ) := by
    rw [Finset.mul_sum, ← Finset.sum_sub_distrib,
      show (1024 : ℝ) * (μ * μ) = ∑ _k : Fin 1024, μ * μ by simp, ← Finset.sum_add_distrib]
    exact Finset.sum_congr rfl fun k _ => by ring
  rw [h, hs]
  ring

/-- On a real row, with the row's sum and sum of squares, the kernel's element is the reference's. -/
theorem kerOut_eq_refOut (f : Fin 1024 → ℝ) (l : Fin 1024) (g b : EReal) :
    kerOut (∑ k, (f k : EReal)) (∑ k, (f k : EReal) * (f k : EReal)) (f l) g b
      = refOut (fun k => (f k : EReal)) (f l) g b := by
  obtain ⟨e, he, hE⟩ := eps_pos
  have hm : mean (fun k => (f k : EReal)) = (((∑ j, f j) / 1024 : ℝ) : EReal) := by
    rw [mean, sum_coe, div_len]
  have hv : var (fun k => (f k : EReal))
      = (((∑ k, (f k - (∑ j, f j) / 1024) * (f k - (∑ j, f j) / 1024)) / 1024 : ℝ) : EReal) := by
    rw [← div_len, ← sum_coe, var, hm]
    simp only [EReal.coe_mul, EReal.coe_sub]
  have hq : (∑ k, (f k : EReal) * (f k : EReal)) = ((∑ k, f k * f k : ℝ) : EReal) := by
    rw [← sum_coe]; simp only [EReal.coe_mul]
  have h0 : 0 ≤ (∑ k, (f k - (∑ j, f j) / 1024) * (f k - (∑ j, f j) / 1024)) / 1024 :=
    div_nonneg (Finset.sum_nonneg fun k _ => mul_self_nonneg _) (by norm_num)
  rw [kerOut, refOut, hv, hm, hq, sum_coe, div_len, div_len, eps, hE]
  generalize (f l : EReal) - (((∑ j, f j) / 1024 : ℝ) : EReal) = d
  rw [← EReal.coe_mul, ← EReal.coe_sub, ← var_real]
  set v : ℝ := (∑ k, (f k - (∑ j, f j) / 1024) * (f k - (∑ j, f j) / 1024)) / 1024
  have hpos : 0 < v + e := by linarith
  rw [← EReal.coe_add, Ideal.rsqrt_coe, Ideal.sqrt_coe, if_neg (not_lt.2 hpos.le), if_neg hpos.ne',
    if_neg (not_lt.2 hpos.le), Ideal.div_coe (Real.sqrt_pos.2 hpos).ne', mul_comm g d, mul_right_comm, one_div]

end Cert.Norm

end
-- ==== Proof.Block.lean ====
/-
# 01_k, one device's block at an index

What the kernel's two pieces of arithmetic compute over the extended reals: a block's statistics are its row sums and
its row sums of squares, and the block written is the kernel's formula (`Norm.kerOut`) of the two devices' statistics
added.
-/
module

public import proofs.«01_k».proof.Proof.Gen.KernelIdeal.Skeleton
public import proofs.«01_k».proof.Proof.Norm
public import Idealize.ShloMosaic.Lib.Pipeline.Value

@[expose] public section

noncomputable section

namespace Cert.BlockAt

open Cert.KernelIdeal Cert.KernelIdeal.Gen Cert.Norm
open Idealize.ShloMosaic Idealize.ShloMosaic.ValueIdx
open scoped BigOperators

/-! ## The statistics -/

/-- A sum along the rows of a block, at row `i`. -/
theorem rowSum_at (X : FVec Ideal S768x512 .f32) (i : Fin 768) :
    multiReduction .add [1] S768 X 0x00000000#32 reduces_S768x512_S768 (.inl rfl) rfl (ix1 i)
      = ∑ k : Fin 512, X (ix2 i k) := by
  refine (Ideal.multiReduction_add_single X _ reduces_S768x512_S768 (.inl rfl) rfl (ix1 i)).trans ?_
  refine Finset.sum_congr rfl fun k _ => congrArg X (funext fun a => Fin.ext ?_)
  match a with
  | ⟨0, _⟩ => rfl
  | ⟨1, _⟩ => rfl

/-- A column of row values, at row `i`. -/
theorem column_at (v : FVec Ideal S768 .f32) (i : Fin 768) :
    shapeCast S768x1 v shapeCasts_S768_S768x1 (ix2 i 0) = v (ix1 i) := by
  refine shapeCast_apply v shapeCasts_S768_S768x1 _ _ ?_
  rw [Shape.rowMajor_val_two, Shape.rowMajor_val_one]
  show i.val = i.val * 1 + 0
  omega

/-- The block as loaded is the block. -/
theorem loaded (X : FVec Ideal S768x512 .f32) : k0_pay2 (F := Ideal) X = X := shapeCast_self X _

/-- The first row of a block's statistics holds its row sums. -/
theorem sum_at (X : FVec Ideal S768x512 .f32) (i : Fin 768) :
    k0_pay3 (F := Ideal) X (ix2 0 i) = ∑ k : Fin 512, X (ix2 i k) := by
  unfold k0_pay3
  rw [loaded, shapeCast_self,
    transpose_apply [1, 0] _ transposes_S768x2_p1_0_S2x768 (ix2 0 i) (ix2 i 0)
      (fun b => match b with | ⟨0, _⟩ => rfl | ⟨1, _⟩ => rfl),
    concatenate_pair_apply_left 1 _ _ concatenates_S768x1_S768x1_S768x2_d1 (ix2 i 0) rfl (ix2 i 0)
      (fun b => match b with | ⟨0, _⟩ => rfl | ⟨1, _⟩ => rfl),
    column_at, rowSum_at]

/-- The second row of a block's statistics holds its row sums of squares. -/
theorem square_at (X : FVec Ideal S768x512 .f32) (i : Fin 768) :
    k0_pay3 (F := Ideal) X (ix2 1 i) = ∑ k : Fin 512, X (ix2 i k) * X (ix2 i k) := by
  unfold k0_pay3
  rw [loaded, shapeCast_self,
    transpose_apply [1, 0] _ transposes_S768x2_p1_0_S2x768 (ix2 1 i) (ix2 i 1)
      (fun b => match b with | ⟨0, _⟩ => rfl | ⟨1, _⟩ => rfl),
    concatenate_pair_apply_right 1 _ _ concatenates_S768x1_S768x1_S768x2_d1 (ix2 i 1) rfl rfl (ix2 i 0)
      (fun b hb => match b, hb with | ⟨0, _⟩, _ => rfl | ⟨1, _⟩, hb => absurd rfl hb) rfl,
    column_at, rowSum_at]
  rfl

/-! ## The block written -/

/-- One of the two columns of the statistics laid the other way, at row `i`. -/
theorem pick_at (w : FVec Ideal S2x768 .f32) (n : Fin 2) (h : S768x2.Slices ![0, n.val] S768x1) (i : Fin 768) :
    extractStridedSlice S768x1 ![0, n.val] (transpose S768x2 [1, 0] w transposes_S2x768_p1_0_S768x2) h (ix2 i 0)
      = w (ix2 n i) := by
  rw [extractStridedSlice_apply ![0, n.val] _ h (ix2 i 0) (ix2 i n)
      (fun a => match a with | ⟨0, _⟩ => (Nat.zero_add _).symm | ⟨1, _⟩ => rfl),
    transpose_apply [1, 0] w transposes_S2x768_p1_0_S768x2 (ix2 i n) (ix2 n i)
      (fun b => match b with | ⟨0, _⟩ => rfl | ⟨1, _⟩ => rfl)]

/-- A column spread over the lanes. -/
theorem lanes_at (v : FVec Ideal S768x1 .f32) (i : Fin 768) (j : Fin 512) :
    broadcastTo S768x512 v broadcasts_S768x1_S768x512 (ix2 i j) = v (ix2 i 0) :=
  broadcastTo_apply v broadcasts_S768x1_S768x512 _ _ (fun a => match a with | ⟨0, _⟩ => rfl | ⟨1, _⟩ => rfl)

/-- A row spread over the rows. -/
theorem rows_at (v : FVec Ideal S1x512 .f32) (i : Fin 768) (j : Fin 512) :
    broadcastTo S768x512 v broadcasts_S1x512_S768x512 (ix2 i j) = v (ix2 0 j) :=
  broadcastTo_apply v broadcasts_S1x512_S768x512 _ _ (fun a => match a with | ⟨0, _⟩ => rfl | ⟨1, _⟩ => rfl)

/-- The block written, at row `i` and lane `j`: the kernel's formula of the two devices' statistics added. -/
theorem written_at (X : FVec Ideal S768x512 .f32) (s s' : FVec Ideal S2x768 .f32) (g b : FVec Ideal S1x512 .bf16)
    (i : Fin 768) (j : Fin 512) :
    k0_pay1 (F := Ideal) X s s' g b (ix2 i j)
      = kerOut (s (ix2 0 i) + s' (ix2 0 i)) (s (ix2 1 i) + s' (ix2 1 i)) (X (ix2 i j)) (g (ix2 0 j)) (b (ix2 0 j)) := by
  have h0 := pick_at (addf s s') 0 slices_S768x2_o0_0_S768x1 i
  have h1 := pick_at (addf s s') 1 slices_S768x2_o0_1_S768x1 i
  unfold k0_pay1
  simp only [shapeCast_self, truncf_apply, extf_apply, addf_apply, mulf_apply, subf_apply, lanes_at, rows_at, divf_apply]
  rw [addf_apply] at h0 h1
  show (X (ix2 i j) - Ideal.div _ len) * Ideal.rsqrt (Ideal.div _ len - Ideal.div _ len * Ideal.div _ len + eps)
    * g (ix2 0 j) + b (ix2 0 j) = _
  exact congrArg₂ (fun p q => kerOut p q (X (ix2 i j)) (g (ix2 0 j)) (b (ix2 0 j))) h0 h1

end Cert.BlockAt

end
-- ==== Proof.Shards.lean ====
/-
# 01_k, the blocks of the whole arrays

Device `c` of the two by two mesh holds the rows of its half `c / 2` and the columns of its half `c % 2`. Its mate
holds the same rows and the other columns. So a whole row is the device's part and its mate's part together.
-/
module

public import proofs.«01_k».proof.Proof.KernelIdealLaunch
public import proofs.«01_k».proof.Proof.Block
public import Idealize.ShloMosaic.Lib.Layout

@[expose] public section

noncomputable section

namespace Cert.Shards

open Cert.KernelIdeal Cert.KernelIdeal.Gen Cert.KernelIdealProof
open Idealize.ShloMosaic Idealize.ShloMosaic.TcCoe Idealize.ShloMosaic.ValueIdx
open scoped BigOperators

/-! ## Where a block lies -/

/-- The whole row of a block's row `i`. -/
def rowOf (c : Dev nD) (i : Fin 768) : Fin 1536 :=
  ⟨c.val / 2 * 768 + i.val, by have := c.isLt; simp only [nD] at this; omega⟩
/-- The whole column of a block's column `j`. -/
def colOf (c : Dev nD) (j : Fin 512) : Fin 1024 := ⟨c.val % 2 * 512 + j.val, by omega⟩

/-- The mate holds the same rows. -/
theorem rowOf_mate (c : Dev nD) (i : Fin 768) : rowOf (mate c) i = rowOf c i := by
  refine Fin.ext ?_
  simp only [rowOf, mate]
  omega

/-- A column is the device's or its mate's. -/
theorem col_cases (c : Dev nD) (l : Fin 1024) : ∃ k, l = colOf c k ∨ l = colOf (mate c) k := by
  refine ⟨⟨l.val % 512, by omega⟩, ?_⟩
  simp only [colOf, mate, Fin.ext_iff]
  omega

/-- A sum over the two halves of a row, the first half first. -/
theorem sum_halves {M : Type} [AddCommMonoid M] (f : Fin 1024 → M) :
    ∑ k, f k = ∑ k : Fin 512, f (colOf (0 : Dev nD) k) + ∑ k : Fin 512, f (colOf (1 : Dev nD) k) :=
  (Fin.sum_univ_add (a := 512) (b := 512) f).trans (congrArg₂ (· + ·)
    (Finset.sum_congr rfl fun k _ => congrArg f (Fin.ext (by simp [colOf])))
    (Finset.sum_congr rfl fun k _ => congrArg f (Fin.ext (by simp [colOf, Nat.add_comm]))))

/-- A sum over a row is the device's part plus its mate's. -/
theorem sum_parts {M : Type} [AddCommMonoid M] (f : Fin 1024 → M) (c : Dev nD) :
    ∑ k, f k = ∑ k : Fin 512, f (colOf c k) + ∑ k : Fin 512, f (colOf (mate c) k) := by
  rw [sum_halves]
  have h : ∀ d e : Dev nD, d.val % 2 = e.val % 2 → colOf d = colOf e := fun d e h => by
    funext k; exact Fin.ext (by simp only [colOf, h])
  rcases Nat.mod_two_eq_zero_or_one c.val with h0 | h1
  · rw [h 0 c (by simp [h0]), h 1 (mate c) (by simp only [mate]; simp; omega)]
  · rw [h 1 c (by simp [h1]), h 0 (mate c) (by simp only [mate]; simp; omega), add_comm]

/-- An entry of a device's block of a matrix. -/
theorem block2_at {α : Type} (A : (⟨2, ![1536, 1024]⟩ : Shape).Idx → α) (c : Dev nD) (i : Fin 768) (j : Fin 512) :
    Layout.blockN ⟨2, ![768, 512]⟩ ⟨2, ![1536, 1024]⟩ (Layout.meshBlock [2, 2] ![[0], [1]] c) A (by decide) (ix2 i j)
      = A (ix2 (rowOf c i) (colOf c j)) := by
  refine congrArg A (funext fun a => Fin.ext ?_)
  have hc : c.val < 4 := c.isLt
  match a with
  | ⟨0, _⟩ =>
    show (c.val / 2 % 2 * 1 + 0) * 768 + i.val = c.val / 2 * 768 + i.val
    omega
  | ⟨1, _⟩ =>
    show (c.val / 1 % 2 * 1 + 0) * 512 + j.val = c.val % 2 * 512 + j.val
    omega

/-- An entry of a device's block of a vector. -/
theorem block1_at {α : Type} (v : (⟨1, ![1024]⟩ : Shape).Idx → α) (c : Dev nD) (j : Fin 512) :
    Layout.blockN ⟨1, ![512]⟩ ⟨1, ![1024]⟩ (Layout.meshBlock [2, 2] ![[1]] c) v (by decide) (ix1 j)
      = v (ix1 (colOf c j)) := by
  refine congrArg v (funext fun a => Fin.ext ?_)
  match a with
  | ⟨0, _⟩ =>
    show (c.val / 1 % 2 * 1 + 0) * 512 + j.val = c.val % 2 * 512 + j.val
    omega

/-! ## What the kernel stages -/

variable (m : (ℓ : Loc nD τ sig) → Buf (Elt Ideal) ℓ)

/-- Over the reals the staged block of `x` is the argument's. -/
theorem x_staged (c : Dev nD) (i : Fin 768) (j : Fin 512) :
    xin m c (ix2 i j) = m ((c.tc : Thread nD τ).loc main_arg0) (ix2 i j) := by
  rw [xin_eq]
  have h : StableHlo.after hostOps0 (fun b => m (c, b)) (Proc.devRef .tc main_v1)
      = (extf .f32 (m ((c.tc : Thread nD τ).loc main_arg0) : FVec Ideal S768x512 .bf16) bitsLt_bf16_f32 : FVec Ideal S768x512 .f32) := by after_results
  exact (congrFun h _).trans (extf_apply ..)

/-- A vector laid as a row. -/
theorem row_at (v : FVec Ideal S512 .bf16) (j : Fin 512) :
    shapeCast S1x512 v shapeCasts_S512_S1x512 (ix2 0 j) = v (ix1 j) := by
  refine shapeCast_apply v shapeCasts_S512_S1x512 _ _ ?_
  rw [Shape.rowMajor_val_two, Shape.rowMajor_val_one]
  show j.val = 0 * 512 + j.val
  omega

/-- Over the reals the staged row of `gamma` is the argument's block. -/
theorem g_staged (c : Dev nD) (j : Fin 512) :
    gin m c (ix2 0 j) = m ((c.tc : Thread nD τ).loc main_arg1) (ix1 j) := by
  rw [gin_eq]
  have h : StableHlo.after hostOps0 (fun b => m (c, b)) (Proc.devRef .tc main_v2)
      = shapeCast S1x512 (m ((c.tc : Thread nD τ).loc main_arg1) : FVec Ideal S512 .bf16)
        shapeCasts_S512_S1x512 := by
    after_results <;> rfl
  exact (congrFun h _).trans (row_at _ j)

/-- Over the reals the staged row of `beta` is the argument's block. -/
theorem b_staged (c : Dev nD) (j : Fin 512) :
    bin m c (ix2 0 j) = m ((c.tc : Thread nD τ).loc main_arg2) (ix1 j) := by
  rw [bin_eq]
  have h : StableHlo.after hostOps0 (fun b => m (c, b)) (Proc.devRef .tc main_v3)
      = shapeCast S1x512 (m ((c.tc : Thread nD τ).loc main_arg2) : FVec Ideal S512 .bf16)
        shapeCasts_S512_S1x512 := by
    after_results <;> rfl
  exact (congrFun h _).trans (row_at _ j)

end Cert.Shards

end
-- ==== Proof.Reference.lean ====
/-
# 01_k, the reference at an index

The reference's result at row `r` and column `l` is the reference's formula (`Norm.refOut`) of row `r` of `x`, with
the scale and the shift of column `l`.
-/
module

public import proofs.«01_k».proof.Proof.Gen.ReferenceIdeal.Run
public import proofs.«01_k».proof.Proof.Gen.ReferenceIdeal.Read
public import proofs.«01_k».proof.Proof.Norm

@[expose] public section

noncomputable section

namespace Cert.RefAt

open Cert.ReferenceIdeal Cert.ReferenceIdeal.Gen Cert.ReferenceIdeal.Read Cert.Norm
open Idealize.ShloMosaic Idealize.ShloMosaic.ValueIdx
open scoped BigOperators

variable (x : (⟨S1536x1024, .bf16⟩ : BufTy).Contents (Elt Ideal)) (g b : (⟨S1024, .bf16⟩ : BufTy).Contents (Elt Ideal))

/-- Row `r` of the whole `x`. -/
def row (r : Fin 1536) : Fin 1024 → EReal := fun k => x (ix2 r k)

/-- An entry of `x` is the entry of its row at its column. -/
theorem cell (i : S1536x1024.Idx) : x i = row x (i 0) (i 1) := congrArg x (eq_ix2 i)

/-- The float32 copy of `x` at an index. -/
theorem copy_at (i : S1536x1024.Idx) : val_main_v0 (F := Ideal) x i = row x (i 0) (i 1) := by
  rw [val_main_v0_apply, Ideal.extf_def]
  exact cell x i

/-- The reference's mean of row `r`, -/
theorem mean_at (i : S1536x1.Idx) : val_main_v6 (F := Ideal) x i = mean (row x (i 0)) := by
  rw [val_main_v6_apply, val_main_v4_apply, val_main_v5_apply, val_main_v3_apply, val_main_cst_apply,
    val_main_cst_0_apply, Ideal.hostDivf_def, Ideal.ofBits_def, Ideal.ofBits_zero_f32, zero_add, mean]
  exact congrArg (Ideal.div · len) (Finset.sum_congr rfl fun k _ => copy_at x _)

/-- which its variance computes again. -/
theorem mean_again (i : S1536x1.Idx) : val_main_call0_v3 (F := Ideal) x i = mean (row x (i 0)) := mean_at x i

/-- The number of entries less zero is the length of a row. -/
theorem count_at (i : S_.Idx) : val_main_call0_v8 (F := Ideal) i = len := by
  rw [val_main_call0_v8_apply, val_main_call0_cst_1_apply, val_main_call0_v7_apply, val_main_c_apply]
  show len - (((0#32 : BitVec 32).toInt : ℝ) : EReal) = len
  simp

/-- That number is positive, so the reference keeps its quotient. -/
theorem count_pos (i : S_.Idx) : val_main_call0_v13 (F := Ideal) i = 1#1 := by
  rw [val_main_call0_v13_apply, count_at, val_main_call0_cst_3_apply, Ideal.cmpf_def, Ideal.ofBits_def,
    Ideal.ofBits_zero_f32, len, len_eq]
  simp [Ideal.cmp]

/-- The reference's variance of row `r`. -/
theorem var_at (i : S1536x1.Idx) : val_main_v7 (F := Ideal) x i = var (row x (i 0)) := by
  have hc : broadcastInDim S1536x1 ![] bcast_S_S1536x1 (val_main_call0_v13 (F := Ideal)) i = 1#1 :=
    (broadcastInDim_scalar_apply bcast_S_S1536x1 _ i).trans (count_pos _)
  have hv : val_main_v7 (F := Ideal) x i = val_main_call0_v12 (F := Ideal) x i := by
    unfold val_main_v7
    simp only [select, hc]
    rfl
  rw [hv, val_main_call0_v12_apply, val_main_call0_v10_apply, val_main_call0_v11_apply, count_at,
    val_main_call0_v9_apply, val_main_call0_cst_2_apply, Ideal.hostDivf_def, Ideal.ofBits_def,
    Ideal.ofBits_zero_f32, zero_add, var]
  refine congrArg (Ideal.div · len) (Finset.sum_congr rfl fun k _ => ?_)
  rw [val_main_call0_v6_apply, val_main_call0_v5_apply, val_main_call0_v4_apply, mean_again, copy_at, Ideal.mulf_def,
    Ideal.subf_def]
  rfl

/-- The reference's result at an index. -/
theorem result_at (i : S1536x1024.Idx) :
    val_main_v21 (F := Ideal) x g b i
      = refOut (row x (i 0)) (row x (i 0) (i 1)) (g (ix1 (i 1))) (b (ix1 (i 1))) := by
  rw [val_main_v21_apply, val_main_v20_apply, val_main_v17_apply, val_main_v12_apply, val_main_v16_apply,
    val_main_v15_apply, val_main_v14_apply, var_at, val_main_v9_apply, val_main_v8_apply, mean_at,
    val_main_v11_apply, val_main_v10_apply, val_main_v19_apply, val_main_v18_apply, val_main_v13_apply,
    val_main_cst_1_apply, copy_at, val_main_v1_apply, val_main_v2_apply, refOut,
    eq_ix1 (idx_main_v10 (idx_main_v11 i)), eq_ix1 (idx_main_v18 (idx_main_v19 i))]
  simp only [Ideal.truncf_def, Ideal.addf_def, Ideal.hostDivf_def, Ideal.mulf_def, Ideal.subf_def, Ideal.extf_def,
    Ideal.hostUnary_sqrt_def, Ideal.ofBits_def]
  rfl

end Cert.RefAt

end
-- ==== Proof.Equation.lean ====
/-
# 01_k, the equation

When no entry of `x` is infinite, the block that device `c` writes is its block of the reference's result.
-/
module

public import proofs.«01_k».proof.Defs
public import proofs.«01_k».proof.Proof.Shards
public import proofs.«01_k».proof.Proof.Reference
public import Idealize.ShloMosaic.Lib.ReduceAll

@[expose] public section

noncomputable section

namespace Cert.Equation

open Cert.Norm Cert.Shards
open Idealize.ShloMosaic Idealize.ShloMosaic.TcCoe Idealize.ShloMosaic.ValueIdx
open scoped BigOperators

/-! ## The precondition -/

/-- An extended real whose absolute value is below infinity is a real number. -/
theorem real_of_abs_lt (a : EReal) (h : max a (-a) < ⊤) : ∃ r : ℝ, a = r := by
  induction a with
  | bot => simp at h
  | top => simp at h
  | coe r => exact ⟨r, rfl⟩

/-- Under the precondition every entry of a device's block of `x` is a real number. -/
theorem real_entry [Cert.Pre_x_finite_KernelIdeal.Facts] (x : FVec Ideal ⟨2, ![768, 512]⟩ .bf16) (g b : FVec Ideal ⟨1, ![512]⟩ .bf16)
    (h : Cert.Pre_x_finite_KernelIdeal.fn (F := Ideal) x g b = fun _ => 1#1) (i : (⟨2, ![768, 512]⟩ : Shape).Idx) :
    ∃ r : ℝ, x i = r := by
  haveI : Subsingleton Cert.Pre_x_finite_KernelIdeal.S_.Idx := ⟨fun p q => funext fun a => a.elim0⟩
  have e := Host.reduce_andi_all _ _ _ _ ix0 (congrFun h ix0) i
  refine real_of_abs_lt _ ?_
  have ht : Ideal.ofBits .f32 0x7F800000#32 = ⊤ := by simp [Ideal.ofBits, Ideal.ieee]
  have e' : Ideal.cmp .olt (max (x i) (-(x i))) (Ideal.ofBits .f32 0x7F800000#32) = 1#1 := e
  rw [ht] at e'
  by_contra hn
  simp [Ideal.cmp, hn] at e'

/-! ## The block written is the reference's -/

open Cert.KernelIdeal in
/-- If the devices hold the blocks of the whole arrays, and every entry of `x` is real, then device `c` writes its
    block of the reference's result. -/
theorem block_eq (m : (ℓ : Loc nD τ sig) → Buf (Elt Ideal) ℓ)
    (x : FVec Ideal ⟨2, ![1536, 1024]⟩ .bf16) (g b : FVec Ideal ⟨1, ![1024]⟩ .bf16)
    (hx : ∀ (c : Dev nD) (i : Fin 768) (j : Fin 512),
      m ((c.tc : Thread nD τ).loc main_arg0) (ix2 i j) = x (ix2 (rowOf c i) (colOf c j)))
    (hg : ∀ (c : Dev nD) (j : Fin 512), m ((c.tc : Thread nD τ).loc main_arg1) (ix1 j) = g (ix1 (colOf c j)))
    (hb : ∀ (c : Dev nD) (j : Fin 512), m ((c.tc : Thread nD τ).loc main_arg2) (ix1 j) = b (ix1 (colOf c j)))
    (hr : ∀ (c : Dev nD) (i : Fin 768) (j : Fin 512), ∃ r : ℝ, x (ix2 (rowOf c i) (colOf c j)) = r) (c : Dev nD) :
    Cert.KernelIdealProof.outB m c
      = Layout.blockN ⟨2, ![768, 512]⟩ ⟨2, ![1536, 1024]⟩ (Layout.meshBlock [2, 2] ![[0], [1]] c)
          (Cert.ReferenceIdeal.Read.val_main_v21 (F := Ideal) x g b) := by
  funext p
  obtain ⟨i, j, rfl⟩ : ∃ (i : Fin 768) (j : Fin 512), p = ix2 i j := ⟨p 0, p 1, eq_ix2 p⟩
  have hrow : ∀ l : Fin 1024, ∃ r : ℝ, x (ix2 (rowOf c i) l) = r := fun l => by
    obtain ⟨k, rfl | rfl⟩ := col_cases c l
    · exact hr c i k
    · exact rowOf_mate c i ▸ hr (Cert.KernelIdealProof.mate c) i k
  choose f hf using hrow
  have hmate : ∀ k : Fin 512, x (ix2 (rowOf (Cert.KernelIdealProof.mate c) i) (colOf (Cert.KernelIdealProof.mate c) k))
      = f (colOf (Cert.KernelIdealProof.mate c) k) := fun k => by rw [rowOf_mate, hf]
  have hrowf : Cert.RefAt.row x (rowOf c i) = fun l => ((f l : ℝ) : EReal) := funext hf
  rw [block2_at]
  refine Eq.trans ?_ (Cert.RefAt.result_at x g b (ix2 (rowOf c i) (colOf c j))).symm
  show _ = refOut (Cert.RefAt.row x (rowOf c i)) (Cert.RefAt.row x (rowOf c i) (colOf c j)) (g (ix1 (colOf c j)))
    (b (ix1 (colOf c j)))
  unfold Cert.KernelIdealProof.outB Cert.KernelIdealProof.stats
  refine (Cert.BlockAt.written_at _ _ _ _ _ i j).trans ?_
  rw [Cert.BlockAt.loaded, Cert.BlockAt.sum_at, Cert.BlockAt.sum_at, Cert.BlockAt.square_at, Cert.BlockAt.square_at,
    g_staged, b_staged, hg, hb, hrowf, ← kerOut_eq_refOut, sum_parts _ c, sum_parts (fun k => (f k : EReal) * f k) c]
  simp only [x_staged, hx, hf, hmate]

end Cert.Equation

end
-- ==== Proof.lean ====
/-
# 01_k, the claims

The frames of the kernel, of the kernel over the extended reals and of the reference, and the equality of the two
results, each from the runs and the equation proved in the modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelLaunch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The shape facts of the precondition at one device's shapes, -/
theorem facts_block : Cert.Pre_x_finite_KernelIdeal.Facts where
  bitsLt_bf16_f32 := by decide
  bcast_S_S768x512 := by decide
  reducesTo_S768x512_S_d0_1 := by decide
  h_S_ := by decide

/-- and at the whole arrays' shapes. -/
theorem facts_whole : Cert.Pre_x_finite_ReferenceIdeal.Facts where
  bitsLt_bf16_f32 := by decide
  bcast_S_S1536x1024 := by decide
  reducesTo_S1536x1024_S_d0_1 := by decide
  h_S_ := by decide

/-- The kernel ends with its arguments as they were and every semaphore at zero. -/
theorem frame_kernel : Cert.quiescent_Kernel := fun m ρ _ =>
  (θ_run Cert.Kernel.defs _ _).mono (fun _ h => ⟨fun c => (h.1 c).2, h.2⟩) (Cert.KernelProof.run m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdealProof.run m ρ)

/-- The reference ends with its arguments as they were; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- When no entry of `x` is infinite, every device's block of the kernel's result is its block of the reference's. -/
theorem same_result [Cert.Pre_x_finite_KernelIdeal.Facts] :
    Cert.algebraic_KernelIdeal_ReferenceIdeal_pre_x_finite_KernelIdeal := by
  intro m ρ m' ρ' hpre hagree
  have hx := fun (c : Dev Cert.KernelIdeal.nD) (i : Fin 768) (j : Fin 512) =>
    (congrFun (hagree c).1 (ix2 i j)).trans (Cert.Shards.block2_at _ c i j)
  have hg := fun (c : Dev Cert.KernelIdeal.nD) (j : Fin 512) =>
    (congrFun (hagree c).2.1 (ix1 j)).trans (Cert.Shards.block1_at _ c j)
  have hb := fun (c : Dev Cert.KernelIdeal.nD) (j : Fin 512) =>
    (congrFun (hagree c).2.2 (ix1 j)).trans (Cert.Shards.block1_at _ c j)
  refine ⟨_, (θ_run Cert.KernelIdeal.defs _ _).mono (fun _ h c => ⟨(h.1 c).1.trans ?_, (h.1 c).2⟩)
      (Cert.KernelIdealProof.run m ρ),
    (θ_run Cert.ReferenceIdeal.defs _ _).mono
      (fun _ h => ⟨(h 0).1.trans (Cert.ReferenceIdeal.Read.val_main_v21_eq _ _ _), (h 0).2⟩)
      (Cert.ReferenceIdeal.Value.run (F := Ideal) m' ρ')⟩
  exact Cert.Equation.block_eq m _ _ _ hx hg hb
    (fun c i j => hx c i j ▸ Cert.Equation.real_entry _ _ _ (hpre c) (ix2 i j)) c

/-- Everything claimed. -/
theorem claim : Cert.Claim :=
  ⟨Cert.Kernel.Gen.facts, Cert.KernelIdeal.Gen.facts, Cert.ReferenceIdeal.Gen.facts, facts_block, facts_whole,
    frame_kernel, frame_ideal, fun m ρ _ => frame_ideal m ρ trivial, frame_reference,
    fun m ρ _ => frame_reference m ρ trivial, trivial, @same_result facts_block⟩

end Cert.Proof

end
